-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x20000x4 : Shape := ⟨3, ![32, 20000, 4]⟩
abbrev S32x20000x91 : Shape := ⟨3, ![32, 20000, 91]⟩
abbrev S16000x3 : Shape := ⟨2, ![16000, 3]⟩
abbrev S3 : Shape := ⟨1, ![3]⟩
abbrev S_ : Shape := ⟨0, ![]⟩
abbrev S1x3 : Shape := ⟨2, ![1, 3]⟩

class Facts : Prop where
  bcast_S_S16000x3 : S_.BroadcastsInDim S16000x3 (![] : Fin 0 → Fin S16000x3.rank)
  bcast_S3_S1x3_1 : S3.BroadcastsInDim S1x3 (![1] : Fin 1 → Fin S1x3.rank)
  bcast_S1x3_S16000x3_0_1 : S1x3.BroadcastsInDim S16000x3 (![0, 1] : Fin 2 → Fin S16000x3.rank)
  reducesTo_S16000x3_S_d0_1 : S16000x3.ReducesTo [0, 1] S_
  h_S_ : 0 < S_.numel

variable [Facts]

noncomputable abbrev lit0 : Fin 3 → BitVec 32 := fun
  | 0 => 32#32 | 1 => 91#32 | 2 => 19968#32
  | _ => 0#32

def fn {F : FTy → Type} [FloatOps F] (main_arg0 : FVec F S32x20000x4 .f32) (main_arg1 : FVec F S32x20000x91 .f32) (main_arg2 : IVec S16000x3 32) : IVec S_ 1 :=
  let main_c : IVec S3 32 := fun i => lit0 (S3.rowMajor i)
  let main_c_0 : IVec S_ 32 := constantI S_ 32 0#32
  let main_v0 : IVec S16000x3 32 := broadcastInDim S16000x3 ![] bcast_S_S16000x3 main_c_0
  let main_v1 : IVec S16000x3 1 := cmpi .sge main_arg2 main_v0
  let main_v2 : IVec S1x3 32 := broadcastInDim S1x3 ![1] bcast_S3_S1x3_1 main_c
  let main_v3 : IVec S16000x3 32 := broadcastInDim S16000x3 ![0, 1] bcast_S1x3_S16000x3_0_1 main_v2
  let main_v4 : IVec S16000x3 1 := cmpi .slt main_arg2 main_v3
  let main_v5 : IVec S16000x3 1 := andi main_v1 main_v4
  let main_c_1 : IVec S_ 1 := constantI S_ 1 1#1
  let main_v6 : IVec S_ 1 := (fun x v => Host.reduce IntOp.andi x v reducesTo_S16000x3_S_d0_1 h_S_) main_v5 main_c_1
  main_v6
-- ==== Kernel.lean ====
abbrev S32x20000x4 : Shape := ⟨3, ![32, 20000, 4]⟩
abbrev S32x20000x91 : Shape := ⟨3, ![32, 20000, 91]⟩
abbrev S16000x3 : Shape := ⟨2, ![16000, 3]⟩
abbrev S_ : Shape := ⟨0, ![]⟩
abbrev S16384x3 : Shape := ⟨2, ![16384, 3]⟩
abbrev S16384x1 : Shape := ⟨2, ![16384, 1]⟩
abbrev S16384 : Shape := ⟨1, ![16384]⟩
abbrev S91x32x20000 : Shape := ⟨3, ![91, 32, 20000]⟩
abbrev S2912x20000 : Shape := ⟨2, ![2912, 20000]⟩
abbrev S32x4x20000 : Shape := ⟨3, ![32, 4, 20000]⟩
abbrev S8x16384 : Shape := ⟨2, ![8, 16384]⟩
abbrev S512 : Shape := ⟨1, ![512]⟩
abbrev S16x8x128 : Shape := ⟨3, ![16, 8, 128]⟩
abbrev S16x4x128 : Shape := ⟨3, ![16, 4, 128]⟩
abbrev S8x512 : Shape := ⟨2, ![8, 512]⟩
abbrev S16 : Shape := ⟨1, ![16]⟩
abbrev S1 : Shape := ⟨1, ![1]⟩
abbrev S1x8x128 : Shape := ⟨3, ![1, 8, 128]⟩
abbrev S8x128 : Shape := ⟨2, ![8, 128]⟩
abbrev S1x4x128 : Shape := ⟨3, ![1, 4, 128]⟩
abbrev S4x128 : Shape := ⟨2, ![4, 128]⟩
abbrev S1x16 : Shape := ⟨2, ![1, 16]⟩
abbrev S7x16000 : Shape := ⟨2, ![7, 16000]⟩
abbrev S16000x7 : Shape := ⟨2, ![16000, 7]⟩

abbrev nBuf : Table → Nat
  | .hbm => 18
  | .local .scVector .vmem => 8
  | _ => 0

abbrev bufTy : (tb : Table) → Fin (nBuf tb) → BufTy
  | .hbm, ⟨0, _⟩ => ⟨S32x20000x4, .f32⟩
  | .hbm, ⟨1, _⟩ => ⟨S32x20000x91, .f32⟩
  | .hbm, ⟨2, _⟩ => ⟨S16000x3, .i32⟩
  | .hbm, ⟨3, _⟩ => ⟨S_, .i32⟩
  | .hbm, ⟨4, _⟩ => ⟨S_, .i32⟩
  | .hbm, ⟨5, _⟩ => ⟨S16384x3, .i32⟩
  | .hbm, ⟨6, _⟩ => ⟨S16384x1, .i32⟩
  | .hbm, ⟨7, _⟩ => ⟨S16384, .i32⟩
  | .hbm, ⟨8, _⟩ => ⟨S16384x1, .i32⟩
  | .hbm, ⟨9, _⟩ => ⟨S16384, .i32⟩
  | .hbm, ⟨10, _⟩ => ⟨S16384x1, .i32⟩
  | .hbm, ⟨11, _⟩ => ⟨S16384, .i32⟩
  | .hbm, ⟨12, _⟩ => ⟨S91x32x20000, .f32⟩
  | .hbm, ⟨13, _⟩ => ⟨S2912x20000, .f32⟩
  | .hbm, ⟨14, _⟩ => ⟨S32x4x20000, .f32⟩
  | .hbm, ⟨15, _⟩ => ⟨S8x16384, .f32⟩
  | .hbm, ⟨16, _⟩ => ⟨S7x16000, .f32⟩
  | .hbm, ⟨17, _⟩ => ⟨S16000x7, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S16x8x128, .f32⟩
  | .local .scVector .vmem, ⟨4, _⟩ => ⟨S16x8x128, .f32⟩
  | .local .scVector .vmem, ⟨5, _⟩ => ⟨S16x4x128, .f32⟩
  | .local .scVector .vmem, ⟨6, _⟩ => ⟨S16x4x128, .f32⟩
  | .local .scVector .vmem, ⟨7, _⟩ => ⟨S8x512, .f32⟩
  | _, _ => ⟨S32x20000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v2_scv : Ref sig .scVector := ⟨.hbm, 7, rfl⟩
abbrev main_v4_scv : Ref sig .scVector := ⟨.hbm, 9, rfl⟩
abbrev main_v6_scv : Ref sig .scVector := ⟨.hbm, 11, rfl⟩
abbrev main_v9_scv : Ref sig .scVector := ⟨.hbm, 14, rfl⟩
abbrev main_v8_scv : Ref sig .scVector := ⟨.hbm, 13, rfl⟩
abbrev main_v10_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg18 : BitVec 32 := Scf.iv c0_i32_0 c1_i32 k0_t1
  let c16_i32 : BitVec 32 := 16#32
  let v5 : BitVec 32 := Scalar.muli arg18 c16_i32
  let v6 : Index := Scalar.indexCast v5
  ![v6.toNat]
def k0_mult1 (v22 : BitVec 32) : BitVec 32 :=
  v22

def k0_chk1 (v22 : BitVec 32) : Prop :=
  (8 ∣ (k0_mult1 v22).toNat)
theorem k0_mult1_dvd : ∀ (v22 : BitVec 32) (k0_hw1 : k0_chk1 v22), 8 ∣ (k0_mult1 v22).toNat := fun v22 k0_hw1 => k0_hw1

def k0_mult2 (v25 : BitVec 32) : BitVec 32 :=
  v25

def k0_off3 (v22 : BitVec 32) (v25 : BitVec 32) : Fin 2 → Nat :=
  let v23 : BitVec 32 := v22
  let v26 : BitVec 32 := v25
  ![v23.toNat, v26.toNat]
def k0_off4 (v20 : BitVec 32) (v25 : BitVec 32) : Fin 3 → Nat :=
  let c0_i32_11 : BitVec 32 := 0#32
  let v26 : BitVec 32 := v25
  ![v20.toNat, 0, v26.toNat]
def k0_mult3 (v44 : BitVec 32) : BitVec 32 :=
  v44

def k0_chk3 (v44 : BitVec 32) : Prop :=
  (8 ∣ (k0_mult3 v44).toNat)
theorem k0_mult3_dvd : ∀ (v44 : BitVec 32) (k0_hw3 : k0_chk3 v44), 8 ∣ (k0_mult3 v44).toNat := fun v44 k0_hw3 => k0_hw3

def k0_mult4 (v47 : BitVec 32) : BitVec 32 :=
  v47

def k0_off5 (v44 : BitVec 32) (v47 : BitVec 32) : Fin 2 → Nat :=
  let v45 : BitVec 32 := v44
  let v48 : BitVec 32 := v47
  ![v45.toNat, v48.toNat]
def k0_off6 (v42 : BitVec 32) (v47 : BitVec 32) : Fin 3 → Nat :=
  let c0_i32_23 : BitVec 32 := 0#32
  let v48 : BitVec 32 := v47
  ![v42.toNat, 0, v48.toNat]
def k0_mult5 (v66 : BitVec 32) : BitVec 32 :=
  v66

def k0_chk5 (v66 : BitVec 32) : Prop :=
  (8 ∣ (k0_mult5 v66).toNat)
theorem k0_mult5_dvd : ∀ (v66 : BitVec 32) (k0_hw5 : k0_chk5 v66), 8 ∣ (k0_mult5 v66).toNat := fun v66 k0_hw5 => k0_hw5

def k0_mult6 (v69 : BitVec 32) : BitVec 32 :=
  v69

def k0_off7 (v66 : BitVec 32) (v69 : BitVec 32) : Fin 2 → Nat :=
  let v67 : BitVec 32 := v66
  let v70 : BitVec 32 := v69
  ![v67.toNat, v70.toNat]
def k0_off8 (v64 : BitVec 32) (v69 : BitVec 32) : Fin 3 → Nat :=
  let c0_i32_35 : BitVec 32 := 0#32
  let v70 : BitVec 32 := v69
  ![v64.toNat, 0, v70.toNat]
def k0_mult7 (v88 : BitVec 32) : BitVec 32 :=
  v88

def k0_chk7 (v88 : BitVec 32) : Prop :=
  (8 ∣ (k0_mult7 v88).toNat)
theorem k0_mult7_dvd : ∀ (v88 : BitVec 32) (k0_hw7 : k0_chk7 v88), 8 ∣ (k0_mult7 v88).toNat := fun v88 k0_hw7 => k0_hw7

def k0_mult8 (v91 : BitVec 32) : BitVec 32 :=
  v91

def k0_off9 (v88 : BitVec 32) (v91 : BitVec 32) : Fin 2 → Nat :=
  let v89 : BitVec 32 := v88
  let v92 : BitVec 32 := v91
  ![v89.toNat, v92.toNat]
def k0_off10 (v86 : BitVec 32) (v91 : BitVec 32) : Fin 3 → Nat :=
  let c0_i32_46 : BitVec 32 := 0#32
  let v92 : BitVec 32 := v91
  ![v86.toNat, 0, v92.toNat]
def k0_mult9 (v110 : BitVec 32) : BitVec 32 :=
  v110

def k0_chk9 (v110 : BitVec 32) : Prop :=
  (8 ∣ (k0_mult9 v110).toNat)
theorem k0_mult9_dvd : ∀ (v110 : BitVec 32) (k0_hw9 : k0_chk9 v110), 8 ∣ (k0_mult9 v110).toNat := fun v110 k0_hw9 => k0_hw9

def k0_mult10 (v113 : BitVec 32) : BitVec 32 :=
  v113

def k0_off11 (v110 : BitVec 32) (v113 : BitVec 32) : Fin 2 → Nat :=
  let v111 : BitVec 32 := v110
  let v114 : BitVec 32 := v113
  ![v111.toNat, v114.toNat]
def k0_off12 (v108 : BitVec 32) (v113 : BitVec 32) : Fin 3 → Nat :=
  let c0_i32_57 : BitVec 32 := 0#32
  let v114 : BitVec 32 := v113
  ![v108.toNat, 0, v114.toNat]
def k0_mult11 (v132 : BitVec 32) : BitVec 32 :=
  v132

def k0_chk11 (v132 : BitVec 32) : Prop :=
  (8 ∣ (k0_mult11 v132).toNat)
theorem k0_mult11_dvd : ∀ (v132 : BitVec 32) (k0_hw11 : k0_chk11 v132), 8 ∣ (k0_mult11 v132).toNat := fun v132 k0_hw11 => k0_hw11

def k0_mult12 (v135 : BitVec 32) : BitVec 32 :=
  v135

def k0_off13 (v132 : BitVec 32) (v135 : BitVec 32) : Fin 2 → Nat :=
  let v133 : BitVec 32 := v132
  let v136 : BitVec 32 := v135
  ![v133.toNat, v136.toNat]
def k0_off14 (v130 : BitVec 32) (v135 : BitVec 32) : Fin 3 → Nat :=
  let c0_i32_68 : BitVec 32 := 0#32
  let v136 : BitVec 32 := v135
  ![v130.toNat, 0, v136.toNat]
def k0_mult13 (v154 : BitVec 32) : BitVec 32 :=
  v154

def k0_chk13 (v154 : BitVec 32) : Prop :=
  (8 ∣ (k0_mult13 v154).toNat)
theorem k0_mult13_dvd : ∀ (v154 : BitVec 32) (k0_hw13 : k0_chk13 v154), 8 ∣ (k0_mult13 v154).toNat := fun v154 k0_hw13 => k0_hw13

def k0_mult14 (v157 : BitVec 32) : BitVec 32 :=
  v157

def k0_off15 (v154 : BitVec 32) (v157 : BitVec 32) : Fin 2 → Nat :=
  let v155 : BitVec 32 := v154
  let v158 : BitVec 32 := v157
  ![v155.toNat, v158.toNat]
def k0_off16 (v152 : BitVec 32) (v157 : BitVec 32) : Fin 3 → Nat :=
  let c0_i32_79 : BitVec 32 := 0#32
  let v158 : BitVec 32 := v157
  ![v152.toNat, 0, v158.toNat]
def k0_mult15 (v176 : BitVec 32) : BitVec 32 :=
  v176

def k0_chk15 (v176 : BitVec 32) : Prop :=
  (8 ∣ (k0_mult15 v176).toNat)
theorem k0_mult15_dvd : ∀ (v176 : BitVec 32) (k0_hw15 : k0_chk15 v176), 8 ∣ (k0_mult15 v176).toNat := fun v176 k0_hw15 => k0_hw15

def k0_mult16 (v179 : BitVec 32) : BitVec 32 :=
  v179

def k0_off17 (v176 : BitVec 32) (v179 : BitVec 32) : Fin 2 → Nat :=
  let v177 : BitVec 32 := v176
  let v180 : BitVec 32 := v179
  ![v177.toNat, v180.toNat]
def k0_off18 (v174 : BitVec 32) (v179 : BitVec 32) : Fin 3 → Nat :=
  let c0_i32_90 : BitVec 32 := 0#32
  let v180 : BitVec 32 := v179
  ![v174.toNat, 0, v180.toNat]
def k0_mult17 (v198 : BitVec 32) : BitVec 32 :=
  v198

def k0_chk17 (v198 : BitVec 32) : Prop :=
  (8 ∣ (k0_mult17 v198).toNat)
theorem k0_mult17_dvd : ∀ (v198 : BitVec 32) (k0_hw17 : k0_chk17 v198), 8 ∣ (k0_mult17 v198).toNat := fun v198 k0_hw17 => k0_hw17

def k0_mult18 (v201 : BitVec 32) : BitVec 32 :=
  v201

def k0_off19 (v198 : BitVec 32) (v201 : BitVec 32) : Fin 2 → Nat :=
  let v199 : BitVec 32 := v198
  let v202 : BitVec 32 := v201
  ![v199.toNat, v202.toNat]
def k0_off20 (v196 : BitVec 32) (v201 : BitVec 32) : Fin 3 → Nat :=
  let c0_i32_101 : BitVec 32 := 0#32
  let v202 : BitVec 32 := v201
  ![v196.toNat, 0, v202.toNat]
def k0_mult19 (v220 : BitVec 32) : BitVec 32 :=
  v220

def k0_chk19 (v220 : BitVec 32) : Prop :=
  (8 ∣ (k0_mult19 v220).toNat)
theorem k0_mult19_dvd : ∀ (v220 : BitVec 32) (k0_hw19 : k0_chk19 v220), 8 ∣ (k0_mult19 v220).toNat := fun v220 k0_hw19 => k0_hw19

def k0_mult20 (v223 : BitVec 32) : BitVec 32 :=
  v223

def k0_off21 (v220 : BitVec 32) (v223 : BitVec 32) : Fin 2 → Nat :=
  let v221 : BitVec 32 := v220
  let v224 : BitVec 32 := v223
  ![v221.toNat, v224.toNat]
def k0_off22 (v218 : BitVec 32) (v223 : BitVec 32) : Fin 3 → Nat :=
  let c0_i32_112 : BitVec 32 := 0#32
  let v224 : BitVec 32 := v223
  ![v218.toNat, 0, v224.toNat]
def k0_mult21 (v242 : BitVec 32) : BitVec 32 :=
  v242

def k0_chk21 (v242 : BitVec 32) : Prop :=
  (8 ∣ (k0_mult21 v242).toNat)
theorem k0_mult21_dvd : ∀ (v242 : BitVec 32) (k0_hw21 : k0_chk21 v242), 8 ∣ (k0_mult21 v242).toNat := fun v242 k0_hw21 => k0_hw21

def k0_mult22 (v245 : BitVec 32) : BitVec 32 :=
  v245

def k0_off23 (v242 : BitVec 32) (v245 : BitVec 32) : Fin 2 → Nat :=
  let v243 : BitVec 32 := v242
  let v246 : BitVec 32 := v245
  ![v243.toNat, v246.toNat]
def k0_off24 (v240 : BitVec 32) (v245 : BitVec 32) : Fin 3 → Nat :=
  let c0_i32_123 : BitVec 32 := 0#32
  let v246 : BitVec 32 := v245
  ![v240.toNat, 0, v246.toNat]
def k0_mult23 (v264 : BitVec 32) : BitVec 32 :=
  v264

def k0_chk23 (v264 : BitVec 32) : Prop :=
  (8 ∣ (k0_mult23 v264).toNat)
theorem k0_mult23_dvd : ∀ (v264 : BitVec 32) (k0_hw23 : k0_chk23 v264), 8 ∣ (k0_mult23 v264).toNat := fun v264 k0_hw23 => k0_hw23

def k0_mult24 (v267 : BitVec 32) : BitVec 32 :=
  v267

def k0_off25 (v264 : BitVec 32) (v267 : BitVec 32) : Fin 2 → Nat :=
  let v265 : BitVec 32 := v264
  let v268 : BitVec 32 := v267
  ![v265.toNat, v268.toNat]
def k0_off26 (v262 : BitVec 32) (v267 : BitVec 32) : Fin 3 → Nat :=
  let c0_i32_134 : BitVec 32 := 0#32
  let v268 : BitVec 32 := v267
  ![v262.toNat, 0, v268.toNat]
def k0_mult25 (v286 : BitVec 32) : BitVec 32 :=
  v286

def k0_chk25 (v286 : BitVec 32) : Prop :=
  (8 ∣ (k0_mult25 v286).toNat)
theorem k0_mult25_dvd : ∀ (v286 : BitVec 32) (k0_hw25 : k0_chk25 v286), 8 ∣ (k0_mult25 v286).toNat := fun v286 k0_hw25 => k0_hw25

def k0_mult26 (v289 : BitVec 32) : BitVec 32 :=
  v289

def k0_off27 (v286 : BitVec 32) (v289 : BitVec 32) : Fin 2 → Nat :=
  let v287 : BitVec 32 := v286
  let v290 : BitVec 32 := v289
  ![v287.toNat, v290.toNat]
def k0_off28 (v284 : BitVec 32) (v289 : BitVec 32) : Fin 3 → Nat :=
  let c0_i32_145 : BitVec 32 := 0#32
  let v290 : BitVec 32 := v289
  ![v284.toNat, 0, v290.toNat]
def k0_mult27 (v308 : BitVec 32) : BitVec 32 :=
  v308

def k0_chk27 (v308 : BitVec 32) : Prop :=
  (8 ∣ (k0_mult27 v308).toNat)
theorem k0_mult27_dvd : ∀ (v308 : BitVec 32) (k0_hw27 : k0_chk27 v308), 8 ∣ (k0_mult27 v308).toNat := fun v308 k0_hw27 => k0_hw27

def k0_mult28 (v311 : BitVec 32) : BitVec 32 :=
  v311

def k0_off29 (v308 : BitVec 32) (v311 : BitVec 32) : Fin 2 → Nat :=
  let v309 : BitVec 32 := v308
  let v312 : BitVec 32 := v311
  ![v309.toNat, v312.toNat]
def k0_off30 (v306 : BitVec 32) (v311 : BitVec 32) : Fin 3 → Nat :=
  let c0_i32_156 : BitVec 32 := 0#32
  let v312 : BitVec 32 := v311
  ![v306.toNat, 0, v312.toNat]
def k0_mult29 (v330 : BitVec 32) : BitVec 32 :=
  v330

def k0_chk29 (v330 : BitVec 32) : Prop :=
  (8 ∣ (k0_mult29 v330).toNat)
theorem k0_mult29_dvd : ∀ (v330 : BitVec 32) (k0_hw29 : k0_chk29 v330), 8 ∣ (k0_mult29 v330).toNat := fun v330 k0_hw29 => k0_hw29

def k0_mult30 (v333 : BitVec 32) : BitVec 32 :=
  v333

def k0_off31 (v330 : BitVec 32) (v333 : BitVec 32) : Fin 2 → Nat :=
  let v331 : BitVec 32 := v330
  let v334 : BitVec 32 := v333
  ![v331.toNat, v334.toNat]
def k0_off32 (v328 : BitVec 32) (v333 : BitVec 32) : Fin 3 → Nat :=
  let c0_i32_167 : BitVec 32 := 0#32
  let v334 : BitVec 32 := v333
  ![v328.toNat, 0, v334.toNat]
def k0_mult31 (v352 : BitVec 32) : BitVec 32 :=
  v352

def k0_chk31 (v352 : BitVec 32) : Prop :=
  (8 ∣ (k0_mult31 v352).toNat)
theorem k0_mult31_dvd : ∀ (v352 : BitVec 32) (k0_hw31 : k0_chk31 v352), 8 ∣ (k0_mult31 v352).toNat := fun v352 k0_hw31 => k0_hw31

def k0_mult32 (v355 : BitVec 32) : BitVec 32 :=
  v355

def k0_off33 (v352 : BitVec 32) (v355 : BitVec 32) : Fin 2 → Nat :=
  let v353 : BitVec 32 := v352
  let v356 : BitVec 32 := v355
  ![v353.toNat, v356.toNat]
def k0_off34 (v350 : BitVec 32) (v355 : BitVec 32) : Fin 3 → Nat :=
  let c0_i32_178 : BitVec 32 := 0#32
  let v356 : BitVec 32 := v355
  ![v350.toNat, 0, v356.toNat]
def k0_off35 (k0_t1 : Fin k0_t1_loop.trips) : Fin 2 → Nat :=
  let c0_i32_182 : BitVec 32 := 0#32
  let v372 : Index := Scalar.indexCast c0_i32_182
  let c0_i32_0 : BitVec 32 := 0#32
  let c1_i32 : BitVec 32 := 1#32
  let arg18 : BitVec 32 := Scf.iv c0_i32_0 c1_i32 k0_t1
  let c16_i32 : BitVec 32 := 16#32
  let v5 : BitVec 32 := Scalar.muli arg18 c16_i32
  let v373 : Index := Scalar.indexCast v5
  ![0, v373.toNat]
def k0_off36 (k0_t1 : Fin k0_t1_loop.trips) : Fin 2 → Nat :=
  let c6_i32_183 : BitVec 32 := 6#32
  let v376 : Index := Scalar.indexCast c6_i32_183
  let c0_i32_0 : BitVec 32 := 0#32
  let c1_i32 : BitVec 32 := 1#32
  let arg18 : BitVec 32 := Scf.iv c0_i32_0 c1_i32 k0_t1
  let c16_i32 : BitVec 32 := 16#32
  let v5 : BitVec 32 := Scalar.muli arg18 c16_i32
  let v377 : Index := Scalar.indexCast v5
  ![6, v377.toNat]
def k0_off37 (v22 : BitVec 32) (v25 : BitVec 32) : Fin 2 → Nat :=
  let v23 : BitVec 32 := v22
  let v26 : BitVec 32 := v25
  ![v23.toNat, v26.toNat]
def k0_off38 (v20 : BitVec 32) (v25 : BitVec 32) : Fin 3 → Nat :=
  let c0_i32_193 : BitVec 32 := 0#32
  let v26 : BitVec 32 := v25
  ![v20.toNat, 0, v26.toNat]

def k0_chk2 (v20 : BitVec 32) (v22 : BitVec 32) (v25 : BitVec 32) : Prop :=
  (128 ∣ (k0_mult2 v25).toNat) ∧
  (∀ a, (k0_off3 v22 v25) a + S8x128.size a ≤ S2912x20000.size a) ∧
  (∀ a, (k0_off4 v20 v25) a + S1x4x128.size a ≤ S32x4x20000.size a) ∧
  (∀ a, (k0_off37 v22 v25) a + S8x128.size a ≤ S2912x20000.size a) ∧
  (∀ a, (k0_off38 v20 v25) a + S1x4x128.size a ≤ S32x4x20000.size a)
theorem k0_mult2_dvd : ∀ (v20 : BitVec 32) (v22 : BitVec 32) (v25 : BitVec 32) (k0_hw2 : k0_chk2 v20 v22 v25), 128 ∣ (k0_mult2 v25).toNat := fun v20 v22 v25 k0_hw2 => k0_hw2.1
theorem k0_off3_inb : ∀ (v20 : BitVec 32) (v22 : BitVec 32) (v25 : BitVec 32) (k0_hw2 : k0_chk2 v20 v22 v25), ∀ a, (k0_off3 v22 v25) a + S8x128.size a ≤ S2912x20000.size a := fun v20 v22 v25 k0_hw2 => k0_hw2.2.1
theorem k0_off4_inb : ∀ (v20 : BitVec 32) (v22 : BitVec 32) (v25 : BitVec 32) (k0_hw2 : k0_chk2 v20 v22 v25), ∀ a, (k0_off4 v20 v25) a + S1x4x128.size a ≤ S32x4x20000.size a := fun v20 v22 v25 k0_hw2 => k0_hw2.2.2.1
theorem k0_off37_inb : ∀ (v20 : BitVec 32) (v22 : BitVec 32) (v25 : BitVec 32) (k0_hw2 : k0_chk2 v20 v22 v25), ∀ a, (k0_off37 v22 v25) a + S8x128.size a ≤ S2912x20000.size a := fun v20 v22 v25 k0_hw2 => k0_hw2.2.2.2.1
theorem k0_off38_inb : ∀ (v20 : BitVec 32) (v22 : BitVec 32) (v25 : BitVec 32) (k0_hw2 : k0_chk2 v20 v22 v25), ∀ a, (k0_off38 v20 v25) a + S1x4x128.size a ≤ S32x4x20000.size a := fun v20 v22 v25 k0_hw2 => k0_hw2.2.2.2.2

def k0_off39 (v44 : BitVec 32) (v47 : BitVec 32) : Fin 2 → Nat :=
  let v45 : BitVec 32 := v44
  let v48 : BitVec 32 := v47
  ![v45.toNat, v48.toNat]
def k0_off40 (v42 : BitVec 32) (v47 : BitVec 32) : Fin 3 → Nat :=
  let c0_i32_205 : BitVec 32 := 0#32
  let v48 : BitVec 32 := v47
  ![v42.toNat, 0, v48.toNat]

def k0_chk4 (v42 : BitVec 32) (v44 : BitVec 32) (v47 : BitVec 32) : Prop :=
  (128 ∣ (k0_mult4 v47).toNat) ∧
  (∀ a, (k0_off5 v44 v47) a + S8x128.size a ≤ S2912x20000.size a) ∧
  (∀ a, (k0_off6 v42 v47) a + S1x4x128.size a ≤ S32x4x20000.size a) ∧
  (∀ a, (k0_off39 v44 v47) a + S8x128.size a ≤ S2912x20000.size a) ∧
  (∀ a, (k0_off40 v42 v47) a + S1x4x128.size a ≤ S32x4x20000.size a)
theorem k0_mult4_dvd : ∀ (v42 : BitVec 32) (v44 : BitVec 32) (v47 : BitVec 32) (k0_hw4 : k0_chk4 v42 v44 v47), 128 ∣ (k0_mult4 v47).toNat := fun v42 v44 v47 k0_hw4 => k0_hw4.1
theorem k0_off5_inb : ∀ (v42 : BitVec 32) (v44 : BitVec 32) (v47 : BitVec 32) (k0_hw4 : k0_chk4 v42 v44 v47), ∀ a, (k0_off5 v44 v47) a + S8x128.size a ≤ S2912x20000.size a := fun v42 v44 v47 k0_hw4 => k0_hw4.2.1
theorem k0_off6_inb : ∀ (v42 : BitVec 32) (v44 : BitVec 32) (v47 : BitVec 32) (k0_hw4 : k0_chk4 v42 v44 v47), ∀ a, (k0_off6 v42 v47) a + S1x4x128.size a ≤ S32x4x20000.size a := fun v42 v44 v47 k0_hw4 => k0_hw4.2.2.1
theorem k0_off39_inb : ∀ (v42 : BitVec 32) (v44 : BitVec 32) (v47 : BitVec 32) (k0_hw4 : k0_chk4 v42 v44 v47), ∀ a, (k0_off39 v44 v47) a + S8x128.size a ≤ S2912x20000.size a := fun v42 v44 v47 k0_hw4 => k0_hw4.2.2.2.1
theorem k0_off40_inb : ∀ (v42 : BitVec 32) (v44 : BitVec 32) (v47 : BitVec 32) (k0_hw4 : k0_chk4 v42 v44 v47), ∀ a, (k0_off40 v42 v47) a + S1x4x128.size a ≤ S32x4x20000.size a := fun v42 v44 v47 k0_hw4 => k0_hw4.2.2.2.2

def k0_off41 (v66 : BitVec 32) (v69 : BitVec 32) : Fin 2 → Nat :=
  let v67 : BitVec 32 := v66
  let v70 : BitVec 32 := v69
  ![v67.toNat, v70.toNat]
def k0_off42 (v64 : BitVec 32) (v69 : BitVec 32) : Fin 3 → Nat :=
  let c0_i32_217 : BitVec 32 := 0#32
  let v70 : BitVec 32 := v69
  ![v64.toNat, 0, v70.toNat]

def k0_chk6 (v64 : BitVec 32) (v66 : BitVec 32) (v69 : BitVec 32) : Prop :=
  (128 ∣ (k0_mult6 v69).toNat) ∧
  (∀ a, (k0_off7 v66 v69) a + S8x128.size a ≤ S2912x20000.size a) ∧
  (∀ a, (k0_off8 v64 v69) a + S1x4x128.size a ≤ S32x4x20000.size a) ∧
  (∀ a, (k0_off41 v66 v69) a + S8x128.size a ≤ S2912x20000.size a) ∧
  (∀ a, (k0_off42 v64 v69) a + S1x4x128.size a ≤ S32x4x20000.size a)
theorem k0_mult6_dvd : ∀ (v64 : BitVec 32) (v66 : BitVec 32) (v69 : BitVec 32) (k0_hw6 : k0_chk6 v64 v66 v69), 128 ∣ (k0_mult6 v69).toNat := fun v64 v66 v69 k0_hw6 => k0_hw6.1
theorem k0_off7_inb : ∀ (v64 : BitVec 32) (v66 : BitVec 32) (v69 : BitVec 32) (k0_hw6 : k0_chk6 v64 v66 v69), ∀ a, (k0_off7 v66 v69) a + S8x128.size a ≤ S2912x20000.size a := fun v64 v66 v69 k0_hw6 => k0_hw6.2.1
theorem k0_off8_inb : ∀ (v64 : BitVec 32) (v66 : BitVec 32) (v69 : BitVec 32) (k0_hw6 : k0_chk6 v64 v66 v69), ∀ a, (k0_off8 v64 v69) a + S1x4x128.size a ≤ S32x4x20000.size a := fun v64 v66 v69 k0_hw6 => k0_hw6.2.2.1
theorem k0_off41_inb : ∀ (v64 : BitVec 32) (v66 : BitVec 32) (v69 : BitVec 32) (k0_hw6 : k0_chk6 v64 v66 v69), ∀ a, (k0_off41 v66 v69) a + S8x128.size a ≤ S2912x20000.size a := fun v64 v66 v69 k0_hw6 => k0_hw6.2.2.2.1
theorem k0_off42_inb : ∀ (v64 : BitVec 32) (v66 : BitVec 32) (v69 : BitVec 32) (k0_hw6 : k0_chk6 v64 v66 v69), ∀ a, (k0_off42 v64 v69) a + S1x4x128.size a ≤ S32x4x20000.size a := fun v64 v66 v69 k0_hw6 => k0_hw6.2.2.2.2

def k0_off43 (v88 : BitVec 32) (v91 : BitVec 32) : Fin 2 → Nat :=
  let v89 : BitVec 32 := v88
  let v92 : BitVec 32 := v91
  ![v89.toNat, v92.toNat]
def k0_off44 (v86 : BitVec 32) (v91 : BitVec 32) : Fin 3 → Nat :=
  let c0_i32_229 : BitVec 32 := 0#32
  let v92 : BitVec 32 := v91
  ![v86.toNat, 0, v92.toNat]

def k0_chk8 (v86 : BitVec 32) (v88 : BitVec 32) (v91 : BitVec 32) : Prop :=
  (128 ∣ (k0_mult8 v91).toNat) ∧
  (∀ a, (k0_off9 v88 v91) a + S8x128.size a ≤ S2912x20000.size a) ∧
  (∀ a, (k0_off10 v86 v91) a + S1x4x128.size a ≤ S32x4x20000.size a) ∧
  (∀ a, (k0_off43 v88 v91) a + S8x128.size a ≤ S2912x20000.size a) ∧
  (∀ a, (k0_off44 v86 v91) a + S1x4x128.size a ≤ S32x4x20000.size a)
theorem k0_mult8_dvd : ∀ (v86 : BitVec 32) (v88 : BitVec 32) (v91 : BitVec 32) (k0_hw8 : k0_chk8 v86 v88 v91), 128 ∣ (k0_mult8 v91).toNat := fun v86 v88 v91 k0_hw8 => k0_hw8.1
theorem k0_off9_inb : ∀ (v86 : BitVec 32) (v88 : BitVec 32) (v91 : BitVec 32) (k0_hw8 : k0_chk8 v86 v88 v91), ∀ a, (k0_off9 v88 v91) a + S8x128.size a ≤ S2912x20000.size a := fun v86 v88 v91 k0_hw8 => k0_hw8.2.1
theorem k0_off10_inb : ∀ (v86 : BitVec 32) (v88 : BitVec 32) (v91 : BitVec 32) (k0_hw8 : k0_chk8 v86 v88 v91), ∀ a, (k0_off10 v86 v91) a + S1x4x128.size a ≤ S32x4x20000.size a := fun v86 v88 v91 k0_hw8 => k0_hw8.2.2.1
theorem k0_off43_inb : ∀ (v86 : BitVec 32) (v88 : BitVec 32) (v91 : BitVec 32) (k0_hw8 : k0_chk8 v86 v88 v91), ∀ a, (k0_off43 v88 v91) a + S8x128.size a ≤ S2912x20000.size a := fun v86 v88 v91 k0_hw8 => k0_hw8.2.2.2.1
theorem k0_off44_inb : ∀ (v86 : BitVec 32) (v88 : BitVec 32) (v91 : BitVec 32) (k0_hw8 : k0_chk8 v86 v88 v91), ∀ a, (k0_off44 v86 v91) a + S1x4x128.size a ≤ S32x4x20000.size a := fun v86 v88 v91 k0_hw8 => k0_hw8.2.2.2.2

def k0_off45 (v110 : BitVec 32) (v113 : BitVec 32) : Fin 2 → Nat :=
  let v111 : BitVec 32 := v110
  let v114 : BitVec 32 := v113
  ![v111.toNat, v114.toNat]
def k0_off46 (v108 : BitVec 32) (v113 : BitVec 32) : Fin 3 → Nat :=
  let c0_i32_241 : BitVec 32 := 0#32
  let v114 : BitVec 32 := v113
  ![v108.toNat, 0, v114.toNat]

def k0_chk10 (v108 : BitVec 32) (v110 : BitVec 32) (v113 : BitVec 32) : Prop :=
  (128 ∣ (k0_mult10 v113).toNat) ∧
  (∀ a, (k0_off11 v110 v113) a + S8x128.size a ≤ S2912x20000.size a) ∧
  (∀ a, (k0_off12 v108 v113) a + S1x4x128.size a ≤ S32x4x20000.size a) ∧
  (∀ a, (k0_off45 v110 v113) a + S8x128.size a ≤ S2912x20000.size a) ∧
  (∀ a, (k0_off46 v108 v113) a + S1x4x128.size a ≤ S32x4x20000.size a)
theorem k0_mult10_dvd : ∀ (v108 : BitVec 32) (v110 : BitVec 32) (v113 : BitVec 32) (k0_hw10 : k0_chk10 v108 v110 v113), 128 ∣ (k0_mult10 v113).toNat := fun v108 v110 v113 k0_hw10 => k0_hw10.1
theorem k0_off11_inb : ∀ (v108 : BitVec 32) (v110 : BitVec 32) (v113 : BitVec 32) (k0_hw10 : k0_chk10 v108 v110 v113), ∀ a, (k0_off11 v110 v113) a + S8x128.size a ≤ S2912x20000.size a := fun v108 v110 v113 k0_hw10 => k0_hw10.2.1
theorem k0_off12_inb : ∀ (v108 : BitVec 32) (v110 : BitVec 32) (v113 : BitVec 32) (k0_hw10 : k0_chk10 v108 v110 v113), ∀ a, (k0_off12 v108 v113) a + S1x4x128.size a ≤ S32x4x20000.size a := fun v108 v110 v113 k0_hw10 => k0_hw10.2.2.1
theorem k0_off45_inb : ∀ (v108 : BitVec 32) (v110 : BitVec 32) (v113 : BitVec 32) (k0_hw10 : k0_chk10 v108 v110 v113), ∀ a, (k0_off45 v110 v113) a + S8x128.size a ≤ S2912x20000.size a := fun v108 v110 v113 k0_hw10 => k0_hw10.2.2.2.1
theorem k0_off46_inb : ∀ (v108 : BitVec 32) (v110 : BitVec 32) (v113 : BitVec 32) (k0_hw10 : k0_chk10 v108 v110 v113), ∀ a, (k0_off46 v108 v113) a + S1x4x128.size a ≤ S32x4x20000.size a := fun v108 v110 v113 k0_hw10 => k0_hw10.2.2.2.2

def k0_off47 (v132 : BitVec 32) (v135 : BitVec 32) : Fin 2 → Nat :=
  let v133 : BitVec 32 := v132
  let v136 : BitVec 32 := v135
  ![v133.toNat, v136.toNat]
def k0_off48 (v130 : BitVec 32) (v135 : BitVec 32) : Fin 3 → Nat :=
  let c0_i32_253 : BitVec 32 := 0#32
  let v136 : BitVec 32 := v135
  ![v130.toNat, 0, v136.toNat]

def k0_chk12 (v130 : BitVec 32) (v132 : BitVec 32) (v135 : BitVec 32) : Prop :=
  (128 ∣ (k0_mult12 v135).toNat) ∧
  (∀ a, (k0_off13 v132 v135) a + S8x128.size a ≤ S2912x20000.size a) ∧
  (∀ a, (k0_off14 v130 v135) a + S1x4x128.size a ≤ S32x4x20000.size a) ∧
  (∀ a, (k0_off47 v132 v135) a + S8x128.size a ≤ S2912x20000.size a) ∧
  (∀ a, (k0_off48 v130 v135) a + S1x4x128.size a ≤ S32x4x20000.size a)
theorem k0_mult12_dvd : ∀ (v130 : BitVec 32) (v132 : BitVec 32) (v135 : BitVec 32) (k0_hw12 : k0_chk12 v130 v132 v135), 128 ∣ (k0_mult12 v135).toNat := fun v130 v132 v135 k0_hw12 => k0_hw12.1
theorem k0_off13_inb : ∀ (v130 : BitVec 32) (v132 : BitVec 32) (v135 : BitVec 32) (k0_hw12 : k0_chk12 v130 v132 v135), ∀ a, (k0_off13 v132 v135) a + S8x128.size a ≤ S2912x20000.size a := fun v130 v132 v135 k0_hw12 => k0_hw12.2.1
theorem k0_off14_inb : ∀ (v130 : BitVec 32) (v132 : BitVec 32) (v135 : BitVec 32) (k0_hw12 : k0_chk12 v130 v132 v135), ∀ a, (k0_off14 v130 v135) a + S1x4x128.size a ≤ S32x4x20000.size a := fun v130 v132 v135 k0_hw12 => k0_hw12.2.2.1
theorem k0_off47_inb : ∀ (v130 : BitVec 32) (v132 : BitVec 32) (v135 : BitVec 32) (k0_hw12 : k0_chk12 v130 v132 v135), ∀ a, (k0_off47 v132 v135) a + S8x128.size a ≤ S2912x20000.size a := fun v130 v132 v135 k0_hw12 => k0_hw12.2.2.2.1
theorem k0_off48_inb : ∀ (v130 : BitVec 32) (v132 : BitVec 32) (v135 : BitVec 32) (k0_hw12 : k0_chk12 v130 v132 v135), ∀ a, (k0_off48 v130 v135) a + S1x4x128.size a ≤ S32x4x20000.size a := fun v130 v132 v135 k0_hw12 => k0_hw12.2.2.2.2

def k0_off49 (v154 : BitVec 32) (v157 : BitVec 32) : Fin 2 → Nat :=
  let v155 : BitVec 32 := v154
  let v158 : BitVec 32 := v157
  ![v155.toNat, v158.toNat]
def k0_off50 (v152 : BitVec 32) (v157 : BitVec 32) : Fin 3 → Nat :=
  let c0_i32_265 : BitVec 32 := 0#32
  let v158 : BitVec 32 := v157
  ![v152.toNat, 0, v158.toNat]

def k0_chk14 (v152 : BitVec 32) (v154 : BitVec 32) (v157 : BitVec 32) : Prop :=
  (128 ∣ (k0_mult14 v157).toNat) ∧
  (∀ a, (k0_off15 v154 v157) a + S8x128.size a ≤ S2912x20000.size a) ∧
  (∀ a, (k0_off16 v152 v157) a + S1x4x128.size a ≤ S32x4x20000.size a) ∧
  (∀ a, (k0_off49 v154 v157) a + S8x128.size a ≤ S2912x20000.size a) ∧
  (∀ a, (k0_off50 v152 v157) a + S1x4x128.size a ≤ S32x4x20000.size a)
theorem k0_mult14_dvd : ∀ (v152 : BitVec 32) (v154 : BitVec 32) (v157 : BitVec 32) (k0_hw14 : k0_chk14 v152 v154 v157), 128 ∣ (k0_mult14 v157).toNat := fun v152 v154 v157 k0_hw14 => k0_hw14.1
theorem k0_off15_inb : ∀ (v152 : BitVec 32) (v154 : BitVec 32) (v157 : BitVec 32) (k0_hw14 : k0_chk14 v152 v154 v157), ∀ a, (k0_off15 v154 v157) a + S8x128.size a ≤ S2912x20000.size a := fun v152 v154 v157 k0_hw14 => k0_hw14.2.1
theorem k0_off16_inb : ∀ (v152 : BitVec 32) (v154 : BitVec 32) (v157 : BitVec 32) (k0_hw14 : k0_chk14 v152 v154 v157), ∀ a, (k0_off16 v152 v157) a + S1x4x128.size a ≤ S32x4x20000.size a := fun v152 v154 v157 k0_hw14 => k0_hw14.2.2.1
theorem k0_off49_inb : ∀ (v152 : BitVec 32) (v154 : BitVec 32) (v157 : BitVec 32) (k0_hw14 : k0_chk14 v152 v154 v157), ∀ a, (k0_off49 v154 v157) a + S8x128.size a ≤ S2912x20000.size a := fun v152 v154 v157 k0_hw14 => k0_hw14.2.2.2.1
theorem k0_off50_inb : ∀ (v152 : BitVec 32) (v154 : BitVec 32) (v157 : BitVec 32) (k0_hw14 : k0_chk14 v152 v154 v157), ∀ a, (k0_off50 v152 v157) a + S1x4x128.size a ≤ S32x4x20000.size a := fun v152 v154 v157 k0_hw14 => k0_hw14.2.2.2.2

def k0_off51 (v176 : BitVec 32) (v179 : BitVec 32) : Fin 2 → Nat :=
  let v177 : BitVec 32 := v176
  let v180 : BitVec 32 := v179
  ![v177.toNat, v180.toNat]
def k0_off52 (v174 : BitVec 32) (v179 : BitVec 32) : Fin 3 → Nat :=
  let c0_i32_277 : BitVec 32 := 0#32
  let v180 : BitVec 32 := v179
  ![v174.toNat, 0, v180.toNat]

def k0_chk16 (v174 : BitVec 32) (v176 : BitVec 32) (v179 : BitVec 32) : Prop :=
  (128 ∣ (k0_mult16 v179).toNat) ∧
  (∀ a, (k0_off17 v176 v179) a + S8x128.size a ≤ S2912x20000.size a) ∧
  (∀ a, (k0_off18 v174 v179) a + S1x4x128.size a ≤ S32x4x20000.size a) ∧
  (∀ a, (k0_off51 v176 v179) a + S8x128.size a ≤ S2912x20000.size a) ∧
  (∀ a, (k0_off52 v174 v179) a + S1x4x128.size a ≤ S32x4x20000.size a)
theorem k0_mult16_dvd : ∀ (v174 : BitVec 32) (v176 : BitVec 32) (v179 : BitVec 32) (k0_hw16 : k0_chk16 v174 v176 v179), 128 ∣ (k0_mult16 v179).toNat := fun v174 v176 v179 k0_hw16 => k0_hw16.1
theorem k0_off17_inb : ∀ (v174 : BitVec 32) (v176 : BitVec 32) (v179 : BitVec 32) (k0_hw16 : k0_chk16 v174 v176 v179), ∀ a, (k0_off17 v176 v179) a + S8x128.size a ≤ S2912x20000.size a := fun v174 v176 v179 k0_hw16 => k0_hw16.2.1
theorem k0_off18_inb : ∀ (v174 : BitVec 32) (v176 : BitVec 32) (v179 : BitVec 32) (k0_hw16 : k0_chk16 v174 v176 v179), ∀ a, (k0_off18 v174 v179) a + S1x4x128.size a ≤ S32x4x20000.size a := fun v174 v176 v179 k0_hw16 => k0_hw16.2.2.1
theorem k0_off51_inb : ∀ (v174 : BitVec 32) (v176 : BitVec 32) (v179 : BitVec 32) (k0_hw16 : k0_chk16 v174 v176 v179), ∀ a, (k0_off51 v176 v179) a + S8x128.size a ≤ S2912x20000.size a := fun v174 v176 v179 k0_hw16 => k0_hw16.2.2.2.1
theorem k0_off52_inb : ∀ (v174 : BitVec 32) (v176 : BitVec 32) (v179 : BitVec 32) (k0_hw16 : k0_chk16 v174 v176 v179), ∀ a, (k0_off52 v174 v179) a + S1x4x128.size a ≤ S32x4x20000.size a := fun v174 v176 v179 k0_hw16 => k0_hw16.2.2.2.2

def k0_off53 (v198 : BitVec 32) (v201 : BitVec 32) : Fin 2 → Nat :=
  let v199 : BitVec 32 := v198
  let v202 : BitVec 32 := v201
  ![v199.toNat, v202.toNat]
def k0_off54 (v196 : BitVec 32) (v201 : BitVec 32) : Fin 3 → Nat :=
  let c0_i32_289 : BitVec 32 := 0#32
  let v202 : BitVec 32 := v201
  ![v196.toNat, 0, v202.toNat]

def k0_chk18 (v196 : BitVec 32) (v198 : BitVec 32) (v201 : BitVec 32) : Prop :=
  (128 ∣ (k0_mult18 v201).toNat) ∧
  (∀ a, (k0_off19 v198 v201) a + S8x128.size a ≤ S2912x20000.size a) ∧
  (∀ a, (k0_off20 v196 v201) a + S1x4x128.size a ≤ S32x4x20000.size a) ∧
  (∀ a, (k0_off53 v198 v201) a + S8x128.size a ≤ S2912x20000.size a) ∧
  (∀ a, (k0_off54 v196 v201) a + S1x4x128.size a ≤ S32x4x20000.size a)
theorem k0_mult18_dvd : ∀ (v196 : BitVec 32) (v198 : BitVec 32) (v201 : BitVec 32) (k0_hw18 : k0_chk18 v196 v198 v201), 128 ∣ (k0_mult18 v201).toNat := fun v196 v198 v201 k0_hw18 => k0_hw18.1
theorem k0_off19_inb : ∀ (v196 : BitVec 32) (v198 : BitVec 32) (v201 : BitVec 32) (k0_hw18 : k0_chk18 v196 v198 v201), ∀ a, (k0_off19 v198 v201) a + S8x128.size a ≤ S2912x20000.size a := fun v196 v198 v201 k0_hw18 => k0_hw18.2.1
theorem k0_off20_inb : ∀ (v196 : BitVec 32) (v198 : BitVec 32) (v201 : BitVec 32) (k0_hw18 : k0_chk18 v196 v198 v201), ∀ a, (k0_off20 v196 v201) a + S1x4x128.size a ≤ S32x4x20000.size a := fun v196 v198 v201 k0_hw18 => k0_hw18.2.2.1
theorem k0_off53_inb : ∀ (v196 : BitVec 32) (v198 : BitVec 32) (v201 : BitVec 32) (k0_hw18 : k0_chk18 v196 v198 v201), ∀ a, (k0_off53 v198 v201) a + S8x128.size a ≤ S2912x20000.size a := fun v196 v198 v201 k0_hw18 => k0_hw18.2.2.2.1
theorem k0_off54_inb : ∀ (v196 : BitVec 32) (v198 : BitVec 32) (v201 : BitVec 32) (k0_hw18 : k0_chk18 v196 v198 v201), ∀ a, (k0_off54 v196 v201) a + S1x4x128.size a ≤ S32x4x20000.size a := fun v196 v198 v201 k0_hw18 => k0_hw18.2.2.2.2

def k0_off55 (v220 : BitVec 32) (v223 : BitVec 32) : Fin 2 → Nat :=
  let v221 : BitVec 32 := v220
  let v224 : BitVec 32 := v223
  ![v221.toNat, v224.toNat]
def k0_off56 (v218 : BitVec 32) (v223 : BitVec 32) : Fin 3 → Nat :=
  let c0_i32_301 : BitVec 32 := 0#32
  let v224 : BitVec 32 := v223
  ![v218.toNat, 0, v224.toNat]

def k0_chk20 (v218 : BitVec 32) (v220 : BitVec 32) (v223 : BitVec 32) : Prop :=
  (128 ∣ (k0_mult20 v223).toNat) ∧
  (∀ a, (k0_off21 v220 v223) a + S8x128.size a ≤ S2912x20000.size a) ∧
  (∀ a, (k0_off22 v218 v223) a + S1x4x128.size a ≤ S32x4x20000.size a) ∧
  (∀ a, (k0_off55 v220 v223) a + S8x128.size a ≤ S2912x20000.size a) ∧
  (∀ a, (k0_off56 v218 v223) a + S1x4x128.size a ≤ S32x4x20000.size a)
theorem k0_mult20_dvd : ∀ (v218 : BitVec 32) (v220 : BitVec 32) (v223 : BitVec 32) (k0_hw20 : k0_chk20 v218 v220 v223), 128 ∣ (k0_mult20 v223).toNat := fun v218 v220 v223 k0_hw20 => k0_hw20.1
theorem k0_off21_inb : ∀ (v218 : BitVec 32) (v220 : BitVec 32) (v223 : BitVec 32) (k0_hw20 : k0_chk20 v218 v220 v223), ∀ a, (k0_off21 v220 v223) a + S8x128.size a ≤ S2912x20000.size a := fun v218 v220 v223 k0_hw20 => k0_hw20.2.1
theorem k0_off22_inb : ∀ (v218 : BitVec 32) (v220 : BitVec 32) (v223 : BitVec 32) (k0_hw20 : k0_chk20 v218 v220 v223), ∀ a, (k0_off22 v218 v223) a + S1x4x128.size a ≤ S32x4x20000.size a := fun v218 v220 v223 k0_hw20 => k0_hw20.2.2.1
theorem k0_off55_inb : ∀ (v218 : BitVec 32) (v220 : BitVec 32) (v223 : BitVec 32) (k0_hw20 : k0_chk20 v218 v220 v223), ∀ a, (k0_off55 v220 v223) a + S8x128.size a ≤ S2912x20000.size a := fun v218 v220 v223 k0_hw20 => k0_hw20.2.2.2.1
theorem k0_off56_inb : ∀ (v218 : BitVec 32) (v220 : BitVec 32) (v223 : BitVec 32) (k0_hw20 : k0_chk20 v218 v220 v223), ∀ a, (k0_off56 v218 v223) a + S1x4x128.size a ≤ S32x4x20000.size a := fun v218 v220 v223 k0_hw20 => k0_hw20.2.2.2.2

def k0_off57 (v242 : BitVec 32) (v245 : BitVec 32) : Fin 2 → Nat :=
  let v243 : BitVec 32 := v242
  let v246 : BitVec 32 := v245
  ![v243.toNat, v246.toNat]
def k0_off58 (v240 : BitVec 32) (v245 : BitVec 32) : Fin 3 → Nat :=
  let c0_i32_313 : BitVec 32 := 0#32
  let v246 : BitVec 32 := v245
  ![v240.toNat, 0, v246.toNat]

def k0_chk22 (v240 : BitVec 32) (v242 : BitVec 32) (v245 : BitVec 32) : Prop :=
  (128 ∣ (k0_mult22 v245).toNat) ∧
  (∀ a, (k0_off23 v242 v245) a + S8x128.size a ≤ S2912x20000.size a) ∧
  (∀ a, (k0_off24 v240 v245) a + S1x4x128.size a ≤ S32x4x20000.size a) ∧
  (∀ a, (k0_off57 v242 v245) a + S8x128.size a ≤ S2912x20000.size a) ∧
  (∀ a, (k0_off58 v240 v245) a + S1x4x128.size a ≤ S32x4x20000.size a)
theorem k0_mult22_dvd : ∀ (v240 : BitVec 32) (v242 : BitVec 32) (v245 : BitVec 32) (k0_hw22 : k0_chk22 v240 v242 v245), 128 ∣ (k0_mult22 v245).toNat := fun v240 v242 v245 k0_hw22 => k0_hw22.1
theorem k0_off23_inb : ∀ (v240 : BitVec 32) (v242 : BitVec 32) (v245 : BitVec 32) (k0_hw22 : k0_chk22 v240 v242 v245), ∀ a, (k0_off23 v242 v245) a + S8x128.size a ≤ S2912x20000.size a := fun v240 v242 v245 k0_hw22 => k0_hw22.2.1
theorem k0_off24_inb : ∀ (v240 : BitVec 32) (v242 : BitVec 32) (v245 : BitVec 32) (k0_hw22 : k0_chk22 v240 v242 v245), ∀ a, (k0_off24 v240 v245) a + S1x4x128.size a ≤ S32x4x20000.size a := fun v240 v242 v245 k0_hw22 => k0_hw22.2.2.1
theorem k0_off57_inb : ∀ (v240 : BitVec 32) (v242 : BitVec 32) (v245 : BitVec 32) (k0_hw22 : k0_chk22 v240 v242 v245), ∀ a, (k0_off57 v242 v245) a + S8x128.size a ≤ S2912x20000.size a := fun v240 v242 v245 k0_hw22 => k0_hw22.2.2.2.1
theorem k0_off58_inb : ∀ (v240 : BitVec 32) (v242 : BitVec 32) (v245 : BitVec 32) (k0_hw22 : k0_chk22 v240 v242 v245), ∀ a, (k0_off58 v240 v245) a + S1x4x128.size a ≤ S32x4x20000.size a := fun v240 v242 v245 k0_hw22 => k0_hw22.2.2.2.2

def k0_off59 (v264 : BitVec 32) (v267 : BitVec 32) : Fin 2 → Nat :=
  let v265 : BitVec 32 := v264
  let v268 : BitVec 32 := v267
  ![v265.toNat, v268.toNat]
def k0_off60 (v262 : BitVec 32) (v267 : BitVec 32) : Fin 3 → Nat :=
  let c0_i32_325 : BitVec 32 := 0#32
  let v268 : BitVec 32 := v267
  ![v262.toNat, 0, v268.toNat]

def k0_chk24 (v262 : BitVec 32) (v264 : BitVec 32) (v267 : BitVec 32) : Prop :=
  (128 ∣ (k0_mult24 v267).toNat) ∧
  (∀ a, (k0_off25 v264 v267) a + S8x128.size a ≤ S2912x20000.size a) ∧
  (∀ a, (k0_off26 v262 v267) a + S1x4x128.size a ≤ S32x4x20000.size a) ∧
  (∀ a, (k0_off59 v264 v267) a + S8x128.size a ≤ S2912x20000.size a) ∧
  (∀ a, (k0_off60 v262 v267) a + S1x4x128.size a ≤ S32x4x20000.size a)
theorem k0_mult24_dvd : ∀ (v262 : BitVec 32) (v264 : BitVec 32) (v267 : BitVec 32) (k0_hw24 : k0_chk24 v262 v264 v267), 128 ∣ (k0_mult24 v267).toNat := fun v262 v264 v267 k0_hw24 => k0_hw24.1
theorem k0_off25_inb : ∀ (v262 : BitVec 32) (v264 : BitVec 32) (v267 : BitVec 32) (k0_hw24 : k0_chk24 v262 v264 v267), ∀ a, (k0_off25 v264 v267) a + S8x128.size a ≤ S2912x20000.size a := fun v262 v264 v267 k0_hw24 => k0_hw24.2.1
theorem k0_off26_inb : ∀ (v262 : BitVec 32) (v264 : BitVec 32) (v267 : BitVec 32) (k0_hw24 : k0_chk24 v262 v264 v267), ∀ a, (k0_off26 v262 v267) a + S1x4x128.size a ≤ S32x4x20000.size a := fun v262 v264 v267 k0_hw24 => k0_hw24.2.2.1
theorem k0_off59_inb : ∀ (v262 : BitVec 32) (v264 : BitVec 32) (v267 : BitVec 32) (k0_hw24 : k0_chk24 v262 v264 v267), ∀ a, (k0_off59 v264 v267) a + S8x128.size a ≤ S2912x20000.size a := fun v262 v264 v267 k0_hw24 => k0_hw24.2.2.2.1
theorem k0_off60_inb : ∀ (v262 : BitVec 32) (v264 : BitVec 32) (v267 : BitVec 32) (k0_hw24 : k0_chk24 v262 v264 v267), ∀ a, (k0_off60 v262 v267) a + S1x4x128.size a ≤ S32x4x20000.size a := fun v262 v264 v267 k0_hw24 => k0_hw24.2.2.2.2

def k0_off61 (v286 : BitVec 32) (v289 : BitVec 32) : Fin 2 → Nat :=
  let v287 : BitVec 32 := v286
  let v290 : BitVec 32 := v289
  ![v287.toNat, v290.toNat]
def k0_off62 (v284 : BitVec 32) (v289 : BitVec 32) : Fin 3 → Nat :=
  let c0_i32_337 : BitVec 32 := 0#32
  let v290 : BitVec 32 := v289
  ![v284.toNat, 0, v290.toNat]

def k0_chk26 (v284 : BitVec 32) (v286 : BitVec 32) (v289 : BitVec 32) : Prop :=
  (128 ∣ (k0_mult26 v289).toNat) ∧
  (∀ a, (k0_off27 v286 v289) a + S8x128.size a ≤ S2912x20000.size a) ∧
  (∀ a, (k0_off28 v284 v289) a + S1x4x128.size a ≤ S32x4x20000.size a) ∧
  (∀ a, (k0_off61 v286 v289) a + S8x128.size a ≤ S2912x20000.size a) ∧
  (∀ a, (k0_off62 v284 v289) a + S1x4x128.size a ≤ S32x4x20000.size a)
theorem k0_mult26_dvd : ∀ (v284 : BitVec 32) (v286 : BitVec 32) (v289 : BitVec 32) (k0_hw26 : k0_chk26 v284 v286 v289), 128 ∣ (k0_mult26 v289).toNat := fun v284 v286 v289 k0_hw26 => k0_hw26.1
theorem k0_off27_inb : ∀ (v284 : BitVec 32) (v286 : BitVec 32) (v289 : BitVec 32) (k0_hw26 : k0_chk26 v284 v286 v289), ∀ a, (k0_off27 v286 v289) a + S8x128.size a ≤ S2912x20000.size a := fun v284 v286 v289 k0_hw26 => k0_hw26.2.1
theorem k0_off28_inb : ∀ (v284 : BitVec 32) (v286 : BitVec 32) (v289 : BitVec 32) (k0_hw26 : k0_chk26 v284 v286 v289), ∀ a, (k0_off28 v284 v289) a + S1x4x128.size a ≤ S32x4x20000.size a := fun v284 v286 v289 k0_hw26 => k0_hw26.2.2.1
theorem k0_off61_inb : ∀ (v284 : BitVec 32) (v286 : BitVec 32) (v289 : BitVec 32) (k0_hw26 : k0_chk26 v284 v286 v289), ∀ a, (k0_off61 v286 v289) a + S8x128.size a ≤ S2912x20000.size a := fun v284 v286 v289 k0_hw26 => k0_hw26.2.2.2.1
theorem k0_off62_inb : ∀ (v284 : BitVec 32) (v286 : BitVec 32) (v289 : BitVec 32) (k0_hw26 : k0_chk26 v284 v286 v289), ∀ a, (k0_off62 v284 v289) a + S1x4x128.size a ≤ S32x4x20000.size a := fun v284 v286 v289 k0_hw26 => k0_hw26.2.2.2.2

def k0_off63 (v308 : BitVec 32) (v311 : BitVec 32) : Fin 2 → Nat :=
  let v309 : BitVec 32 := v308
  let v312 : BitVec 32 := v311
  ![v309.toNat, v312.toNat]
def k0_off64 (v306 : BitVec 32) (v311 : BitVec 32) : Fin 3 → Nat :=
  let c0_i32_349 : BitVec 32 := 0#32
  let v312 : BitVec 32 := v311
  ![v306.toNat, 0, v312.toNat]

def k0_chk28 (v306 : BitVec 32) (v308 : BitVec 32) (v311 : BitVec 32) : Prop :=
  (128 ∣ (k0_mult28 v311).toNat) ∧
  (∀ a, (k0_off29 v308 v311) a + S8x128.size a ≤ S2912x20000.size a) ∧
  (∀ a, (k0_off30 v306 v311) a + S1x4x128.size a ≤ S32x4x20000.size a) ∧
  (∀ a, (k0_off63 v308 v311) a + S8x128.size a ≤ S2912x20000.size a) ∧
  (∀ a, (k0_off64 v306 v311) a + S1x4x128.size a ≤ S32x4x20000.size a)
theorem k0_mult28_dvd : ∀ (v306 : BitVec 32) (v308 : BitVec 32) (v311 : BitVec 32) (k0_hw28 : k0_chk28 v306 v308 v311), 128 ∣ (k0_mult28 v311).toNat := fun v306 v308 v311 k0_hw28 => k0_hw28.1
theorem k0_off29_inb : ∀ (v306 : BitVec 32) (v308 : BitVec 32) (v311 : BitVec 32) (k0_hw28 : k0_chk28 v306 v308 v311), ∀ a, (k0_off29 v308 v311) a + S8x128.size a ≤ S2912x20000.size a := fun v306 v308 v311 k0_hw28 => k0_hw28.2.1
theorem k0_off30_inb : ∀ (v306 : BitVec 32) (v308 : BitVec 32) (v311 : BitVec 32) (k0_hw28 : k0_chk28 v306 v308 v311), ∀ a, (k0_off30 v306 v311) a + S1x4x128.size a ≤ S32x4x20000.size a := fun v306 v308 v311 k0_hw28 => k0_hw28.2.2.1
theorem k0_off63_inb : ∀ (v306 : BitVec 32) (v308 : BitVec 32) (v311 : BitVec 32) (k0_hw28 : k0_chk28 v306 v308 v311), ∀ a, (k0_off63 v308 v311) a + S8x128.size a ≤ S2912x20000.size a := fun v306 v308 v311 k0_hw28 => k0_hw28.2.2.2.1
theorem k0_off64_inb : ∀ (v306 : BitVec 32) (v308 : BitVec 32) (v311 : BitVec 32) (k0_hw28 : k0_chk28 v306 v308 v311), ∀ a, (k0_off64 v306 v311) a + S1x4x128.size a ≤ S32x4x20000.size a := fun v306 v308 v311 k0_hw28 => k0_hw28.2.2.2.2

def k0_off65 (v330 : BitVec 32) (v333 : BitVec 32) : Fin 2 → Nat :=
  let v331 : BitVec 32 := v330
  let v334 : BitVec 32 := v333
  ![v331.toNat, v334.toNat]
def k0_off66 (v328 : BitVec 32) (v333 : BitVec 32) : Fin 3 → Nat :=
  let c0_i32_361 : BitVec 32 := 0#32
  let v334 : BitVec 32 := v333
  ![v328.toNat, 0, v334.toNat]

def k0_chk30 (v328 : BitVec 32) (v330 : BitVec 32) (v333 : BitVec 32) : Prop :=
  (128 ∣ (k0_mult30 v333).toNat) ∧
  (∀ a, (k0_off31 v330 v333) a + S8x128.size a ≤ S2912x20000.size a) ∧
  (∀ a, (k0_off32 v328 v333) a + S1x4x128.size a ≤ S32x4x20000.size a) ∧
  (∀ a, (k0_off65 v330 v333) a + S8x128.size a ≤ S2912x20000.size a) ∧
  (∀ a, (k0_off66 v328 v333) a + S1x4x128.size a ≤ S32x4x20000.size a)
theorem k0_mult30_dvd : ∀ (v328 : BitVec 32) (v330 : BitVec 32) (v333 : BitVec 32) (k0_hw30 : k0_chk30 v328 v330 v333), 128 ∣ (k0_mult30 v333).toNat := fun v328 v330 v333 k0_hw30 => k0_hw30.1
theorem k0_off31_inb : ∀ (v328 : BitVec 32) (v330 : BitVec 32) (v333 : BitVec 32) (k0_hw30 : k0_chk30 v328 v330 v333), ∀ a, (k0_off31 v330 v333) a + S8x128.size a ≤ S2912x20000.size a := fun v328 v330 v333 k0_hw30 => k0_hw30.2.1
theorem k0_off32_inb : ∀ (v328 : BitVec 32) (v330 : BitVec 32) (v333 : BitVec 32) (k0_hw30 : k0_chk30 v328 v330 v333), ∀ a, (k0_off32 v328 v333) a + S1x4x128.size a ≤ S32x4x20000.size a := fun v328 v330 v333 k0_hw30 => k0_hw30.2.2.1
theorem k0_off65_inb : ∀ (v328 : BitVec 32) (v330 : BitVec 32) (v333 : BitVec 32) (k0_hw30 : k0_chk30 v328 v330 v333), ∀ a, (k0_off65 v330 v333) a + S8x128.size a ≤ S2912x20000.size a := fun v328 v330 v333 k0_hw30 => k0_hw30.2.2.2.1
theorem k0_off66_inb : ∀ (v328 : BitVec 32) (v330 : BitVec 32) (v333 : BitVec 32) (k0_hw30 : k0_chk30 v328 v330 v333), ∀ a, (k0_off66 v328 v333) a + S1x4x128.size a ≤ S32x4x20000.size a := fun v328 v330 v333 k0_hw30 => k0_hw30.2.2.2.2

def k0_off67 (v352 : BitVec 32) (v355 : BitVec 32) : Fin 2 → Nat :=
  let v353 : BitVec 32 := v352
  let v356 : BitVec 32 := v355
  ![v353.toNat, v356.toNat]

def k0_chk32 (v350 : BitVec 32) (v352 : BitVec 32) (v355 : BitVec 32) : Prop :=
  (128 ∣ (k0_mult32 v355).toNat) ∧
  (∀ a, (k0_off33 v352 v355) a + S8x128.size a ≤ S2912x20000.size a) ∧
  (∀ a, (k0_off34 v350 v355) a + S1x4x128.size a ≤ S32x4x20000.size a) ∧
  (∀ a, (k0_off67 v352 v355) a + S8x128.size a ≤ S2912x20000.size a)
theorem k0_mult32_dvd : ∀ (v350 : BitVec 32) (v352 : BitVec 32) (v355 : BitVec 32) (k0_hw32 : k0_chk32 v350 v352 v355), 128 ∣ (k0_mult32 v355).toNat := fun v350 v352 v355 k0_hw32 => k0_hw32.1
theorem k0_off33_inb : ∀ (v350 : BitVec 32) (v352 : BitVec 32) (v355 : BitVec 32) (k0_hw32 : k0_chk32 v350 v352 v355), ∀ a, (k0_off33 v352 v355) a + S8x128.size a ≤ S2912x20000.size a := fun v350 v352 v355 k0_hw32 => k0_hw32.2.1
theorem k0_off34_inb : ∀ (v350 : BitVec 32) (v352 : BitVec 32) (v355 : BitVec 32) (k0_hw32 : k0_chk32 v350 v352 v355), ∀ a, (k0_off34 v350 v355) a + S1x4x128.size a ≤ S32x4x20000.size a := fun v350 v352 v355 k0_hw32 => k0_hw32.2.2.1
theorem k0_off67_inb : ∀ (v350 : BitVec 32) (v352 : BitVec 32) (v355 : BitVec 32) (k0_hw32 : k0_chk32 v350 v352 v355), ∀ a, (k0_off67 v352 v355) a + S8x128.size a ≤ S2912x20000.size a := fun v350 v352 v355 k0_hw32 => k0_hw32.2.2.2

def k0_chk33 (v3 : IVec S16 32) (v605 : IVec S16 32) (v607 : IVec S16 32) : Prop :=
  (∀ a x, ((![v3, v607, v605] : Fin 3 → IVec S16 32) a x).toNat < S16x8x128.size a)
theorem k0_idx1_inb : ∀ (v3 : IVec S16 32) (v605 : IVec S16 32) (v607 : IVec S16 32) (k0_hw33 : k0_chk33 v3 v605 v607), ∀ a x, ((![v3, v607, v605] : Fin 3 → IVec S16 32) a x).toNat < S16x8x128.size a := fun v3 v605 v607 k0_hw33 => k0_hw33
def k0_off68 (k0_t1 : Fin k0_t1_loop.trips) : Fin 2 → Nat :=
  let c5_i32_378 : BitVec 32 := 5#32
  let v609 : Index := Scalar.indexCast c5_i32_378
  let c0_i32_0 : BitVec 32 := 0#32
  let c1_i32 : BitVec 32 := 1#32
  let arg18 : BitVec 32 := Scf.iv c0_i32_0 c1_i32 k0_t1
  let c16_i32_184 : BitVec 32 := 16#32
  let v379 : BitVec 32 := Scalar.muli arg18 c16_i32_184
  let v610 : Index := Scalar.indexCast v379
  ![5, v610.toNat]

def k0_chk34 (v3 : IVec S16 32) (v605 : IVec S16 32) (v612 : IVec S16 32) : Prop :=
  (∀ a x, ((![v3, v612, v605] : Fin 3 → IVec S16 32) a x).toNat < S16x4x128.size a)
theorem k0_idx2_inb : ∀ (v3 : IVec S16 32) (v605 : IVec S16 32) (v612 : IVec S16 32) (k0_hw34 : k0_chk34 v3 v605 v612), ∀ a x, ((![v3, v612, v605] : Fin 3 → IVec S16 32) a x).toNat < S16x4x128.size a := fun v3 v605 v612 k0_hw34 => k0_hw34
def k0_off69 (k0_t1 : Fin k0_t1_loop.trips) : Fin 2 → Nat :=
  let c1_i32_380 : BitVec 32 := 1#32
  let v614 : Index := Scalar.indexCast c1_i32_380
  let c0_i32_0 : BitVec 32 := 0#32
  let c1_i32 : BitVec 32 := 1#32
  let arg18 : BitVec 32 := Scf.iv c0_i32_0 c1_i32 k0_t1
  let c16_i32_184 : BitVec 32 := 16#32
  let v379 : BitVec 32 := Scalar.muli arg18 c16_i32_184
  let v615 : Index := Scalar.indexCast v379
  ![1, v615.toNat]

def k0_chk35 (v3 : IVec S16 32) (v605 : IVec S16 32) (v617 : IVec S16 32) : Prop :=
  (∀ a x, ((![v3, v617, v605] : Fin 3 → IVec S16 32) a x).toNat < S16x4x128.size a)
theorem k0_idx3_inb : ∀ (v3 : IVec S16 32) (v605 : IVec S16 32) (v617 : IVec S16 32) (k0_hw35 : k0_chk35 v3 v605 v617), ∀ a x, ((![v3, v617, v605] : Fin 3 → IVec S16 32) a x).toNat < S16x4x128.size a := fun v3 v605 v617 k0_hw35 => k0_hw35
def k0_off70 (k0_t1 : Fin k0_t1_loop.trips) : Fin 2 → Nat :=
  let c2_i32_382 : BitVec 32 := 2#32
  let v619 : Index := Scalar.indexCast c2_i32_382
  let c0_i32_0 : BitVec 32 := 0#32
  let c1_i32 : BitVec 32 := 1#32
  let arg18 : BitVec 32 := Scf.iv c0_i32_0 c1_i32 k0_t1
  let c16_i32_184 : BitVec 32 := 16#32
  let v379 : BitVec 32 := Scalar.muli arg18 c16_i32_184
  let v620 : Index := Scalar.indexCast v379
  ![2, v620.toNat]

def k0_chk36 (v3 : IVec S16 32) (v605 : IVec S16 32) (v622 : IVec S16 32) : Prop :=
  (∀ a x, ((![v3, v622, v605] : Fin 3 → IVec S16 32) a x).toNat < S16x4x128.size a)
theorem k0_idx4_inb : ∀ (v3 : IVec S16 32) (v605 : IVec S16 32) (v622 : IVec S16 32) (k0_hw36 : k0_chk36 v3 v605 v622), ∀ a x, ((![v3, v622, v605] : Fin 3 → IVec S16 32) a x).toNat < S16x4x128.size a := fun v3 v605 v622 k0_hw36 => k0_hw36
def k0_off71 (k0_t1 : Fin k0_t1_loop.trips) : Fin 2 → Nat :=
  let c3_i32_384 : BitVec 32 := 3#32
  let v624 : Index := Scalar.indexCast c3_i32_384
  let c0_i32_0 : BitVec 32 := 0#32
  let c1_i32 : BitVec 32 := 1#32
  let arg18 : BitVec 32 := Scf.iv c0_i32_0 c1_i32 k0_t1
  let c16_i32_184 : BitVec 32 := 16#32
  let v379 : BitVec 32 := Scalar.muli arg18 c16_i32_184
  let v625 : Index := Scalar.indexCast v379
  ![3, v625.toNat]

def k0_chk37 (v3 : IVec S16 32) (v605 : IVec S16 32) (v627 : IVec S16 32) : Prop :=
  (∀ a x, ((![v3, v627, v605] : Fin 3 → IVec S16 32) a x).toNat < S16x4x128.size a)
theorem k0_idx5_inb : ∀ (v3 : IVec S16 32) (v605 : IVec S16 32) (v627 : IVec S16 32) (k0_hw37 : k0_chk37 v3 v605 v627), ∀ a x, ((![v3, v627, v605] : Fin 3 → IVec S16 32) a x).toNat < S16x4x128.size a := fun v3 v605 v627 k0_hw37 => k0_hw37
def k0_off72 (k0_t1 : Fin k0_t1_loop.trips) : Fin 2 → Nat :=
  let c4_i32_386 : BitVec 32 := 4#32
  let v629 : Index := Scalar.indexCast c4_i32_386
  let c0_i32_0 : BitVec 32 := 0#32
  let c1_i32 : BitVec 32 := 1#32
  let arg18 : BitVec 32 := Scf.iv c0_i32_0 c1_i32 k0_t1
  let c16_i32_184 : BitVec 32 := 16#32
  let v379 : BitVec 32 := Scalar.muli arg18 c16_i32_184
  let v630 : Index := Scalar.indexCast v379
  ![4, v630.toNat]
def k0_off73 (i : grid0.Coords) : Fin 2 → Nat :=
  let c0_i32_2_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x20000x4 : Shape := ⟨3, ![32, 20000, 4]⟩
abbrev S32x20000x91 : Shape := ⟨3, ![32, 20000, 91]⟩
abbrev S16000x3 : Shape := ⟨2, ![16000, 3]⟩
abbrev S16000x1 : Shape := ⟨2, ![16000, 1]⟩
abbrev S16000 : Shape := ⟨1, ![16000]⟩
abbrev S_ : Shape := ⟨0, ![]⟩
abbrev S16000x2 : Shape := ⟨2, ![16000, 2]⟩
abbrev S16000x4 : Shape := ⟨2, ![16000, 4]⟩
abbrev S16000x7 : Shape := ⟨2, ![16000, 7]⟩

abbrev nBuf : Space → Nat
  | .hbm => 59
  | .vmem => 0
  | .smem => 0
  | _ => 0

abbrev bufTy : (tb : Table) → Fin (tcTables nBuf tb) → BufTy
  | .hbm, ⟨0, _⟩ => ⟨S32x20000x4, .f32⟩
  | .hbm, ⟨1, _⟩ => ⟨S32x20000x91, .f32⟩
  | .hbm, ⟨2, _⟩ => ⟨S16000x3, .i32⟩
  | .hbm, ⟨3, _⟩ => ⟨S16000x1, .i32⟩
  | .hbm, ⟨4, _⟩ => ⟨S16000, .i32⟩
  | .hbm, ⟨5, _⟩ => ⟨S16000x1, .i32⟩
  | .hbm, ⟨6, _⟩ => ⟨S16000, .i32⟩
  | .hbm, ⟨7, _⟩ => ⟨S16000x1, .i32⟩
  | .hbm, ⟨8, _⟩ => ⟨S16000, .i32⟩
  | .hbm, ⟨9, _⟩ => ⟨S_, .i32⟩
  | .hbm, ⟨10, _⟩ => ⟨S16000, .i32⟩
  | .hbm, ⟨11, _⟩ => ⟨S16000, .i1⟩
  | .hbm, ⟨12, _⟩ => ⟨S_, .i32⟩
  | .hbm, ⟨13, _⟩ => ⟨S16000, .i32⟩
  | .hbm, ⟨14, _⟩ => ⟨S16000, .i32⟩
  | .hbm, ⟨15, _⟩ => ⟨S16000, .i32⟩
  | .hbm, ⟨16, _⟩ => ⟨S_, .i32⟩
  | .hbm, ⟨17, _⟩ => ⟨S16000, .i32⟩
  | .hbm, ⟨18, _⟩ => ⟨S16000, .i1⟩
  | .hbm, ⟨19, _⟩ => ⟨S_, .i32⟩
  | .hbm, ⟨20, _⟩ => ⟨S16000, .i32⟩
  | .hbm, ⟨21, _⟩ => ⟨S16000, .i32⟩
  | .hbm, ⟨22, _⟩ => ⟨S16000, .i32⟩
  | .hbm, ⟨23, _⟩ => ⟨S16000x1, .i32⟩
  | .hbm, ⟨24, _⟩ => ⟨S16000x1, .i32⟩
  | .hbm, ⟨25, _⟩ => ⟨S16000x2, .i32⟩
  | .hbm, ⟨26, _⟩ => ⟨S16000x4, .f32⟩
  | .hbm, ⟨27, _⟩ => ⟨S_, .i32⟩
  | .hbm, ⟨28, _⟩ => ⟨S16000, .i32⟩
  | .hbm, ⟨29, _⟩ => ⟨S16000, .i1⟩
  | .hbm, ⟨30, _⟩ => ⟨S_, .i32⟩
  | .hbm, ⟨31, _⟩ => ⟨S16000, .i32⟩
  | .hbm, ⟨32, _⟩ => ⟨S16000, .i32⟩
  | .hbm, ⟨33, _⟩ => ⟨S16000, .i32⟩
  | .hbm, ⟨34, _⟩ => ⟨S_, .i32⟩
  | .hbm, ⟨35, _⟩ => ⟨S16000, .i32⟩
  | .hbm, ⟨36, _⟩ => ⟨S16000, .i1⟩
  | .hbm, ⟨37, _⟩ => ⟨S_, .i32⟩
  | .hbm, ⟨38, _⟩ => ⟨S16000, .i32⟩
  | .hbm, ⟨39, _⟩ => ⟨S16000, .i32⟩
  | .hbm, ⟨40, _⟩ => ⟨S16000, .i32⟩
  | .hbm, ⟨41, _⟩ => ⟨S_, .i32⟩
  | .hbm, ⟨42, _⟩ => ⟨S16000, .i32⟩
  | .hbm, ⟨43, _⟩ => ⟨S16000, .i1⟩
  | .hbm, ⟨44, _⟩ => ⟨S_, .i32⟩
  | .hbm, ⟨45, _⟩ => ⟨S16000, .i32⟩
  | .hbm, ⟨46, _⟩ => ⟨S16000, .i32⟩
  | .hbm, ⟨47, _⟩ => ⟨S16000, .i32⟩
  | .hbm, ⟨48, _⟩ => ⟨S16000x1, .i32⟩
  | .hbm, ⟨49, _⟩ => ⟨S16000x1, .i32⟩
  | .hbm, ⟨50, _⟩ => ⟨S16000x1, .i32⟩
  | .hbm, ⟨51, _⟩ => ⟨S16000x3, .i32⟩
  | .hbm, ⟨52, _⟩ => ⟨S16000, .f32⟩
  | .hbm, ⟨53, _⟩ => ⟨S16000x1, .i32⟩
  | .hbm, ⟨54, _⟩ => ⟨S16000x1, .f32⟩
  | .hbm, ⟨55, _⟩ => ⟨S16000x1, .f32⟩
  | .hbm, ⟨56, _⟩ => ⟨S16000x1, .i32⟩
  | .hbm, ⟨57, _⟩ => ⟨S16000x1, .f32⟩
  | .hbm, ⟨58, _⟩ => ⟨S16000x7, .f32⟩
  | _, _ => ⟨S32x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_7 : Ref sig .tc := ⟨.hbm, 41, rfl⟩
abbrev main_v30 : Ref sig .tc := ⟨.hbm, 42, rfl⟩
abbrev main_v31 : Ref sig .tc := ⟨.hbm, 43, rfl⟩
abbrev main_c_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Proof.Setup.lean ====
/-
  Names shared by the proof's modules: the program as the launch theorem reads it, the resource algebra (the
  handshakes' rounds beside the transfers' counters), the arrays a tile task addresses and its thread.
-/
module

public import proofs.«01_k».proof.Defs
public import Idealize.ShloMosaic.Lib.SparseCore.Quiescent
public import Idealize.ShloMosaic.Lib.SparseCore.Ops
public import Idealize.ShloMosaic.Lib.Batch
public import Idealize.ShloMosaic.Lib.Writes
public import Idealize.ShloMosaic.Lib.ValueLayout
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

/-- The assertions the whole proof is written in. -/
abbrev MM (F : FTy → Type) : Type := MT nD τ sig (HIx 1) (Elt F) ℕ UU ℕ

abbrev EH : Emb UH (MM F) := embL
abbrev EC : UEmb Counters (MM F) := countersEmb (U := UU)

/-! ## A tile task's thread and arrays -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The three index columns, the box table, the score table and the result, as a tile addresses them. -/
abbrev aB : Memref sig .scVector .hbm S16384 .i32 := Memref.whole main_v2_scv
abbrev aL : Memref sig .scVector .hbm S16384 .i32 := Memref.whole main_v4_scv
abbrev aX : Memref sig .scVector .hbm S16384 .i32 := Memref.whole main_v6_scv
abbrev aT : Memref sig .scVector .hbm S32x4x20000 .f32 := Memref.whole main_v9_scv
abbrev aS : Memref sig .scVector .hbm S2912x20000 .f32 := Memref.whole main_v8_scv
abbrev aO : Memref sig .scVector .hbm S8x16384 .f32 := Memref.whole main_v10_scv
/-- A tile's scratch: its 512 words of each index column, the staged score and box windows, its 512 result columns. -/
abbrev sB : Memref sig .scVector .vmem S512 .i32 := Memref.whole cc0_scratch0
abbrev sL : Memref sig .scVector .vmem S512 .i32 := Memref.whole cc0_scratch1
abbrev sX : Memref sig .scVector .vmem S512 .i32 := Memref.whole cc0_scratch2
abbrev mS : Memref sig .scVector .vmem S16x8x128 .f32 := Memref.whole cc0_scratch3
abbrev mS' : Memref sig .scVector .vmem S16x8x128 .f32 := Memref.whole cc0_scratch4
abbrev mT : Memref sig .scVector .vmem S16x4x128 .f32 := Memref.whole cc0_scratch5
abbrev mT' : Memref sig .scVector .vmem S16x4x128 .f32 := Memref.whole cc0_scratch6
abbrev sO : Memref sig .scVector .vmem S8x512 .f32 := Memref.whole cc0_scratch7

end Cert.Proof.Run

end
-- ==== Proof.Windows.lean ====
/-
  One trip's window copies. For each of sixteen lanes the tile copies an 8×128 window of the score table into slab `k`
  of a 16×8×128 staging array, and a 4×128 window of the box table into slab `k` of a 16×4×128 one; the sixteen copies
  of a kind share one DMA semaphore. Here: the windows and slabs, what a staging array holds once all its copies have
  landed (`stagedS`, `stagedT`), and one issue lemma and one wait lemma per kind, for any lane.
-/
module

public import proofs.«01_k».proof.Proof.Setup

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending shareTok shareDrop)

variable {F : FTy → Type} [FloatOps F]

local notation "𝕄" => MM F

/-! ## Slabs and windows -/

theorem slabS_inb (k : Fin 16) : ∀ a, (![k.val, 0, 0] : Fin 3 → Nat) a + S1x8x128.size a ≤ S16x8x128.size a := by
  intro a; have := k.isLt; fin_cases a <;> simp <;> omega
theorem slabT_inb (k : Fin 16) : ∀ a, (![k.val, 0, 0] : Fin 3 → Nat) a + S1x4x128.size a ≤ S16x4x128.size a := by
  intro a; have := k.isLt; fin_cases a <;> simp <;> omega

abbrev slabS (k : Fin 16) : Memref sig .scVector .vmem S8x128 .f32 :=
  (mS.slice (Rect.unit (s := S16x8x128) ![k.val, 0, 0] S1x8x128.size (slabS_inb k)) (fun _ => rfl)).squeeze S8x128 squeezes_S1x8x128_S8x128
abbrev slabT (k : Fin 16) : Memref sig .scVector .vmem S4x128 .f32 :=
  (mT.slice (Rect.unit (s := S16x4x128) ![k.val, 0, 0] S1x4x128.size (slabT_inb k)) (fun _ => rfl)).squeeze S4x128 squeezes_S1x4x128_S4x128

/-- A lane's three words: which image, the first of its eight score rows, the first of its 128 anchors. -/
structure Lane where
  b : BitVec 32
  r : BitVec 32
  x : BitVec 32
  ok : k0_chk2 b r x

abbrev winS (w : Lane) : Memref sig .scVector .hbm S8x128 .f32 :=
  aS.slice (Rect.unit (s := S2912x20000) (k0_off3 w.r w.x) S8x128.size (k0_off3_inb w.b w.r w.x w.ok)) (fun _ => rfl)
abbrev winT (w : Lane) : Memref sig .scVector .hbm S4x128 .f32 :=
  (aT.slice (Rect.unit (s := S32x4x20000) (k0_off4 w.b w.x) S1x4x128.size (k0_off4_inb w.b w.r w.x w.ok)) (fun _ => rfl)).squeeze S4x128 squeezes_S1x4x128_S4x128

theorem slabS_emb (k : Fin 16) (y : S8x128.Idx) : (slabS k).view.emb y = (ix3 k (y 0) (y 1) : S16x8x128.Idx) := by
  rw [eq_ix2 y]
  show (Rect.unit (s := S16x8x128) ![k.val, 0, 0] S1x8x128.size (slabS_inb k)).emb (Shape.reshapeEquiv _ (ix2 (y 0) (y 1))) = _
  erw [reshapeEquiv_ix2_1ab]
  funext a; apply Fin.ext
  match a with
  | 0 => show k.val + 1 * 0 = k.val; omega
  | 1 => show 0 + 1 * (y 0).val = (y 0).val; omega
  | 2 => show 0 + 1 * (y 1).val = (y 1).val; omega

theorem slabT_emb (k : Fin 16) (y : S4x128.Idx) : (slabT k).view.emb y = (ix3 k (y 0) (y 1) : S16x4x128.Idx) := by
  rw [eq_ix2 y]
  show (Rect.unit (s := S16x4x128) ![k.val, 0, 0] S1x4x128.size (slabT_inb k)).emb (Shape.reshapeEquiv _ (ix2 (y 0) (y 1))) = _
  erw [reshapeEquiv_ix2_1ab]
  funext a; apply Fin.ext
  match a with
  | 0 => show k.val + 1 * 0 = k.val; omega
  | 1 => show 0 + 1 * (y 0).val = (y 0).val; omega
  | 2 => show 0 + 1 * (y 1).val = (y 1).val; omega

theorem mem_slabS (k : Fin 16) (i : S16x8x128.Idx) : i ∈ (slabS k).view.set ↔ i 0 = k := by
  constructor
  · intro h
    obtain ⟨y, -, rfl⟩ := Finset.mem_map.mp h
    rw [slabS_emb]
  · rintro rfl
    refine Finset.mem_map.mpr ⟨ix2 (i 1) (i 2), Finset.mem_univ _, ?_⟩
    exact (slabS_emb (i 0) _).trans (eq_ix3 i).symm

theorem mem_slabT (k : Fin 16) (i : S16x4x128.Idx) : i ∈ (slabT k).view.set ↔ i 0 = k := by
  constructor
  · intro h
    obtain ⟨y, -, rfl⟩ := Finset.mem_map.mp h
    rw [slabT_emb]
  · rintro rfl
    refine Finset.mem_map.mpr ⟨ix2 (i 1) (i 2), Finset.mem_univ _, ?_⟩
    exact (slabT_emb (i 0) _).trans (eq_ix3 i).symm

/-! ## What a staging array holds once its copies have landed -/

variable (d : Dev nD) (L : grid0.Coords) (w : Fin 16 → Lane)

def stagedS (fs : Buf (Elt F) (aS.view.loc (thr d L))) : Buf (Elt F) (mS.view.loc (thr d L)) :=
  fun (i : S16x8x128.Idx) => (winS (w (i 0))).view.read (Elt F) fs (ix2 (i 1) (i 2))
def stagedT (ft : Buf (Elt F) (aT.view.loc (thr d L))) : Buf (Elt F) (mT.view.loc (thr d L)) :=
  fun (i : S16x4x128.Idx) => (winT (w (i 0))).view.read (Elt F) ft (ix2 (i 1) (i 2))

theorem landS (fs : Buf (Elt F) (aS.view.loc (thr d L))) (f₀ : Buf (Elt F) (mS.view.loc (thr d L))) (k : Fin 16) :
    ∀ i ∈ (slabS k).view.set, ((slabS k).view.write (Elt F) f₀ ((ReadAs.same : ReadAs (Elt F) S8x128 .f32 S8x128 .f32).apply
      ((winS (w k)).view.read (Elt F) fs)) Finset.univ : Buf (Elt F) (mS.view.loc (thr d L))) i = stagedS d L w fs i := by
  intro i hi
  obtain ⟨y, -, rfl⟩ := Finset.mem_map.mp hi
  refine (View.write_emb_of_mem (v := (slabS k).view) (Val := Elt F) f₀ _ (Finset.mem_univ y)).trans ?_
  unfold stagedS
  rw [slabS_emb]
  exact congrArg ((winS (w k)).view.read (Elt F) fs) (eq_ix2 y)

theorem landT (ft : Buf (Elt F) (aT.view.loc (thr d L))) (f₀ : Buf (Elt F) (mT.view.loc (thr d L))) (k : Fin 16) :
    ∀ i ∈ (slabT k).view.set, ((slabT k).view.write (Elt F) f₀ ((ReadAs.same : ReadAs (Elt F) S4x128 .f32 S4x128 .f32).apply
      ((winT (w k)).view.read (Elt F) ft)) Finset.univ : Buf (Elt F) (mT.view.loc (thr d L))) i = stagedT d L w ft i := by
  intro i hi
  obtain ⟨y, -, rfl⟩ := Finset.mem_map.mp hi
  refine (View.write_emb_of_mem (v := (slabT k).view) (Val := Elt F) f₀ _ (Finset.mem_univ y)).trans ?_
  unfold stagedT
  rw [slabT_emb]
  exact congrArg ((winT (w k)).view.read (Elt F) ft) (eq_ix2 y)

/-! ## The copies' state -/

/-- The two DMA semaphores, and a window's units on each. -/
abbrev semS : DmaSem sig := cc0_scratch8.sem
abbrev semT : DmaSem sig := cc0_scratch9.sem
abbrev nS : ℕ := (slabS 0).view.dmaCredit
abbrev nT : ℕ := (slabT 0).view.dmaCredit

variable (q : PosShare TreeShare) (fs : Buf (Elt F) (aS.view.loc (thr d L))) (ft : Buf (Elt F) (aT.view.loc (thr d L)))
  (gs : Buf (Elt F) (mS.view.loc (thr d L))) (gt : Buf (Elt F) (mT.view.loc (thr d L)))

/-- What the copy of lane `k` brings back: its slab staged and its read share of the window. -/
def backS (k : Fin 16) : sProp 𝕄 :=
  iprop((mS.view.loc (thr d L) ↦[(slabS k).view.set]{fullShare} stagedS d L w fs)
    ∗ aS.view.loc (thr d L) ↦[(winS (w k)).view.set]{shareTok q 16 k} fs)
def backT (k : Fin 16) : sProp 𝕄 :=
  iprop((mT.view.loc (thr d L) ↦[(slabT k).view.set]{fullShare} stagedT d L w ft)
    ∗ aT.view.loc (thr d L) ↦[(winT (w k)).view.set]{shareTok q 16 k} ft)

instance (k : Fin 16) : BI.Storable (upEmb : UEmb _ 𝕄) (backS d L w q fs k) := by unfold backS; infer_instance
instance (k : Fin 16) : BI.Storable (upEmb : UEmb _ 𝕄) (backT d L w q ft k) := by unfold backT; infer_instance

/-- Before lane `n`'s copy: the slabs and window shares of the lanes from `n` on, and the batch with `n` copies issued. -/
def issuedS (n : ℕ) : sProp 𝕄 :=
  iprop((bigSep (pending (n := 16) n) fun k => iprop((mS.view.loc (thr d L) ↦[(slabS k).view.set]{fullShare} gs)
      ∗ aS.view.loc (thr d L) ↦[(winS (w k)).view.set]{shareTok q 16 k} fs))
    ∗ Batch EC (thr d L) (.dma semS) none nS (backS d L w q fs) n 0)
def issuedT (n : ℕ) : sProp 𝕄 :=
  iprop((bigSep (pending (n := 16) n) fun k => iprop((mT.view.loc (thr d L) ↦[(slabT k).view.set]{fullShare} gt)
      ∗ aT.view.loc (thr d L) ↦[(winT (w k)).view.set]{shareTok q 16 k} ft))
    ∗ Batch EC (thr d L) (.dma semT) none nT (backT d L w q ft) n 0)

variable {α : Type}

theorem issueS {Q : α → sProp 𝕄} (n : ℕ) (hn : n < 16) {src : Memref sig .scVector .hbm S8x128 .f32} {dst : Memref sig .scVector .vmem S8x128 .f32}
    (hs : src = winS (w ⟨n, hn⟩)) (hd : dst = slabS ⟨n, hn⟩) {h1 : src.view.WordExact} {h2 : dst.view.WordExact}
    {h3 : DmaTarget.Typed (nD := nD) (τ := τ) (p := (thr d L).2) .hbm (.dma semS) (.here dst)} {k : PUnit → Prog (TpuEff nD τ sig (Elt F) Λ₀ (thr d L).2) α} :
    issuedS d L w q fs gs n
      ⊢ iprop((issuedS d L w q fs gs (n + 1) -∗ wp frame (wpE (defs₀ (F := F)) 𝒱₀ (thr d L) none) Set.univ (k ⟨⟩) Q)
        -∗ wp frame (wpE (defs₀ (F := F)) 𝒱₀ (thr d L) none) Set.univ
            (.op (.enqueueDmaAs src (.here dst) .same (.dma semS) h1 h2 h3) k) Q) := by
  subst hs hd
  have hD : iprop((mS.view.loc (thr d L) ↦[(slabS ⟨n, hn⟩).view.set]{fullShare} ((slabS ⟨n, hn⟩).view.write (Elt F) gs
      ((ReadAs.same : ReadAs (Elt F) S8x128 .f32 S8x128 .f32).apply ((winS (w ⟨n, hn⟩)).view.read (Elt F) fs)) Finset.univ : Buf (Elt F) (mS.view.loc (thr d L))))
      ∗ (aS.view.loc (thr d L) ↦[(winS (w ⟨n, hn⟩)).view.set]{shareTok q 16 ⟨n, hn⟩} fs)) ⊢ (backS d L w q fs ⟨n, hn⟩ : sProp 𝕄) := by
    rw [pointsTo_congr (landS d L w fs gs ⟨n, hn⟩)]; exact BI.Entails.refl _
  have hN : (slabS ⟨n, hn⟩).view.amount (.dma semS) = nS := rfl
  unfold issuedS
  rw [Transfers.pending_succ hn, SparseCore.bigSep_insert' (Transfers.not_mem_pending_succ hn)]
  iintro ⟨⟨⟨Hd, Hs⟩, Hrest⟩, HB⟩ Hk
  iapply (Transfers.wp_dmaBatch EC 𝒱₀ (thr d L) none (none : HIx 1) nS (src := winS (w ⟨n, hn⟩)) (dst := slabS ⟨n, hn⟩) (fs := fs) (fd := gs)
    (q := shareTok q 16 ⟨n, hn⟩) (Sd := (slabS ⟨n, hn⟩).view.set) (D := backS d L w q fs) hN (Finset.Subset.refl _) hn (Nat.zero_le _) hD) $$ [Hs Hd HB]
  · isplitl [Hs]; · iexact Hs
    isplitl [Hd]; · iexact Hd
    iexact HB
  iintro HB
  iapply Hk
  isplitl [Hrest] <;> iassumption

theorem issueT {Q : α → sProp 𝕄} (n : ℕ) (hn : n < 16) {src : Memref sig .scVector .hbm S4x128 .f32} {dst : Memref sig .scVector .vmem S4x128 .f32}
    (hs : src = winT (w ⟨n, hn⟩)) (hd : dst = slabT ⟨n, hn⟩) {h1 : src.view.WordExact} {h2 : dst.view.WordExact}
    {h3 : DmaTarget.Typed (nD := nD) (τ := τ) (p := (thr d L).2) .hbm (.dma semT) (.here dst)} {k : PUnit → Prog (TpuEff nD τ sig (Elt F) Λ₀ (thr d L).2) α} :
    issuedT d L w q ft gt n
      ⊢ iprop((issuedT d L w q ft gt (n + 1) -∗ wp frame (wpE (defs₀ (F := F)) 𝒱₀ (thr d L) none) Set.univ (k ⟨⟩) Q)
        -∗ wp frame (wpE (defs₀ (F := F)) 𝒱₀ (thr d L) none) Set.univ
            (.op (.enqueueDmaAs src (.here dst) .same (.dma semT) h1 h2 h3) k) Q) := by
  subst hs hd
  have hD : iprop((mT.view.loc (thr d L) ↦[(slabT ⟨n, hn⟩).view.set]{fullShare} ((slabT ⟨n, hn⟩).view.write (Elt F) gt
      ((ReadAs.same : ReadAs (Elt F) S4x128 .f32 S4x128 .f32).apply ((winT (w ⟨n, hn⟩)).view.read (Elt F) ft)) Finset.univ : Buf (Elt F) (mT.view.loc (thr d L))))
      ∗ (aT.view.loc (thr d L) ↦[(winT (w ⟨n, hn⟩)).view.set]{shareTok q 16 ⟨n, hn⟩} ft)) ⊢ (backT d L w q ft ⟨n, hn⟩ : sProp 𝕄) := by
    rw [pointsTo_congr (landT d L w ft gt ⟨n, hn⟩)]; exact BI.Entails.refl _
  have hN : (slabT ⟨n, hn⟩).view.amount (.dma semT) = nT := rfl
  unfold issuedT
  rw [Transfers.pending_succ hn, SparseCore.bigSep_insert' (Transfers.not_mem_pending_succ hn)]
  iintro ⟨⟨⟨Hd, Hs⟩, Hrest⟩, HB⟩ Hk
  iapply (Transfers.wp_dmaBatch EC 𝒱₀ (thr d L) none (none : HIx 1) nT (src := winT (w ⟨n, hn⟩)) (dst := slabT ⟨n, hn⟩) (fs := ft) (fd := gt)
    (q := shareTok q 16 ⟨n, hn⟩) (Sd := (slabT ⟨n, hn⟩).view.set) (D := backT d L w q ft) hN (Finset.Subset.refl _) hn (Nat.zero_le _) hD) $$ [Hs Hd HB]
  · isplitl [Hs]; · iexact Hs
    isplitl [Hd]; · iexact Hd
    iexact HB
  iintro HB
  iapply Hk
  isplitl [Hrest] <;> iassumption

/-! ## The waits: the first fifteen of a kind hand nothing back, the last everything -/

/-- With all sixteen copies issued and `u` windows' units consumed, what the tile holds of a kind, and its debts. -/
def drainS (u : ℕ) : sProp 𝕄 := Batch EC (thr d L) (.dma semS) none nS (backS d L w q fs) 16 (u * nS)
def drainT (u : ℕ) : sProp 𝕄 := Batch EC (thr d L) (.dma semT) none nT (backT d L w q ft) 16 (u * nT)

/-- What the tile owes throughout, with waits recorded at no other index than `W` or `none`. -/
def debt (O : CellTallies nD τ sig (HIx 1)) (W : Waits sig (HIx 1)) : sProp 𝕄 :=
  iprop(∃ W', ⌜∀ p ∈ W', p ∈ W ∨ p.2 = none⌝ ∗ owes (thr d L) O W')

theorem issuedS_drain : issuedS d L w q fs gs 16 ⊢ (drainS d L w q fs 0 : sProp 𝕄) := by
  unfold issuedS drainS
  rw [Nat.zero_mul]
  iintro ⟨-, HB⟩; iexact HB
theorem issuedT_drain : issuedT d L w q ft gt 16 ⊢ (drainT d L w q ft 0 : sProp 𝕄) := by
  unfold issuedT drainT
  rw [Nat.zero_mul]
  iintro ⟨-, HB⟩; iexact HB

variable (O : CellTallies nD τ sig (HIx 1)) (W : Waits sig (HIx 1))

theorem debt_insert (sm : SemLoc sig) (W' : Waits sig (HIx 1)) (hW' : ∀ p ∈ W', p ∈ W ∨ p.2 = none) :
    owes (thr d L) O (insert (sm, none) W') ⊢ (debt d L O W : sProp 𝕄) := by
  unfold debt
  iintro HO
  iexists (insert (sm, (none : HIx 1)) W'); isplitr
  · ipureintro; intro p hp
    rcases Finset.mem_insert.mp hp with hp | hp
    · exact .inr (hp ▸ rfl)
    · exact hW' p hp
  · iexact HO

theorem nS_pos : 0 < nS := View.dmaCredit_pos _ (by decide)
theorem nT_pos : 0 < nT := View.dmaCredit_pos _ (by decide)

theorem waitS {Q : α → sProp 𝕄} (u : ℕ) (hu : u < 15) {src : Memref sig .scVector .hbm S8x128 .f32} {dst : Memref sig .scVector .vmem S8x128 .f32} (n : Fin 16) (hd : dst = slabS n)
    {h1 : src.view.WordExact} {h2 : dst.view.WordExact} {k : PUnit → Prog (TpuEff nD τ sig (Elt F) Λ₀ (thr d L).2) α} :
    iprop(drainS d L w q fs u ∗ debt d L O W ∗ Transfers.MayWaits (thr d L) (none : HIx 1) O)
      ⊢ iprop((iprop(drainS d L w q fs (u + 1) ∗ debt d L O W) -∗ wp frame (wpE (defs₀ (F := F)) 𝒱₀ (thr d L) none) Set.univ (k ⟨⟩) Q)
        -∗ wp frame (wpE (defs₀ (F := F)) 𝒱₀ (thr d L) none) Set.univ
            (.op (.waitDma2 semS src dst h1 h2) k) Q) := by
  subst hd
  have hN : (slabS n).view.dmaCredit = nS := rfl
  have hu' : u * nS + nS < nS * 16 := by
    rw [← Nat.succ_mul, Nat.mul_comm nS]; exact Nat.mul_lt_mul_of_pos_right (by omega) nS_pos
  unfold drainS
  conv_lhs => unfold debt
  iintro ⟨HB, ⟨%W', %hW', HO⟩, Hmw⟩ Hk
  ihave Hm := (Transfers.MayWaits.elim (SemLoc.dma semS)) $$ Hmw
  iapply (Transfers.wp_waitBatchO EC 𝒱₀ (thr d L) none (none : HIx 1) (N := nS) (D := backS d L w q fs) (u := u * nS) hN hu') $$ [HB HO Hm]
  · isplitl [HB]; · iexact HB
    isplitl [HO]; · iexact HO
    iexact Hm
  iintro ⟨HB, HO⟩
  iapply Hk
  rw [Nat.succ_mul]
  isplitl [HB]; · iexact HB
  iapply (debt_insert d L O W _ W' hW'); iexact HO

/-- The last wait of the score windows hands every slab and every share back, and the counter at zero. -/
theorem waitS_last {Q : α → sProp 𝕄} {src : Memref sig .scVector .hbm S8x128 .f32} {dst : Memref sig .scVector .vmem S8x128 .f32} (n : Fin 16) (hd : dst = slabS n)
    {h1 : src.view.WordExact} {h2 : dst.view.WordExact} {k : PUnit → Prog (TpuEff nD τ sig (Elt F) Λ₀ (thr d L).2) α} :
    iprop(drainS d L w q fs 15 ∗ debt d L O W ∗ Transfers.MayWaits (thr d L) (none : HIx 1) O)
      ⊢ iprop((iprop((bigSep Finset.univ fun k => backS d L w q fs k) ∗ semVal (thr d L, .dma semS) 0 ∗ debt d L O W)
          -∗ wp frame (wpE (defs₀ (F := F)) 𝒱₀ (thr d L) none) Set.univ (k ⟨⟩) Q)
        -∗ wp frame (wpE (defs₀ (F := F)) 𝒱₀ (thr d L) none) Set.univ
            (.op (.waitDma2 semS src dst h1 h2) k) Q) := by
  subst hd
  have hN : (slabS n).view.dmaCredit = nS := rfl
  have hu' : 15 * nS + nS = nS * 16 := by rw [← Nat.succ_mul, Nat.mul_comm nS]
  unfold drainS
  conv_lhs => unfold debt
  iintro ⟨HB, ⟨%W', %hW', HO⟩, Hmw⟩ Hk
  ihave Hm := (Transfers.MayWaits.elim (SemLoc.dma semS)) $$ Hmw
  iapply (Transfers.wp_waitBatchLastO EC 𝒱₀ (thr d L) none (none : HIx 1) (N := nS) (D := backS d L w q fs) (u := 15 * nS) hN nS_pos hu') $$ [HB HO Hm]
  · isplitl [HB]; · iexact HB
    isplitl [HO]; · iexact HO
    iexact Hm
  iintro ⟨HD, Hv, HO⟩
  iapply Hk
  isplitl [HD]; · iexact HD
  isplitl [Hv]; · iexact Hv
  iapply (debt_insert d L O W _ W' hW'); iexact HO

theorem waitT {Q : α → sProp 𝕄} (u : ℕ) (hu : u < 15) {src : Memref sig .scVector .hbm S4x128 .f32} {dst : Memref sig .scVector .vmem S4x128 .f32} (n : Fin 16) (hd : dst = slabT n)
    {h1 : src.view.WordExact} {h2 : dst.view.WordExact} {k : PUnit → Prog (TpuEff nD τ sig (Elt F) Λ₀ (thr d L).2) α} :
    iprop(drainT d L w q ft u ∗ debt d L O W ∗ Transfers.MayWaits (thr d L) (none : HIx 1) O)
      ⊢ iprop((iprop(drainT d L w q ft (u + 1) ∗ debt d L O W) -∗ wp frame (wpE (defs₀ (F := F)) 𝒱₀ (thr d L) none) Set.univ (k ⟨⟩) Q)
        -∗ wp frame (wpE (defs₀ (F := F)) 𝒱₀ (thr d L) none) Set.univ
            (.op (.waitDma2 semT src dst h1 h2) k) Q) := by
  subst hd
  have hN : (slabT n).view.dmaCredit = nT := rfl
  have hu' : u * nT + nT < nT * 16 := by
    rw [← Nat.succ_mul, Nat.mul_comm nT]; exact Nat.mul_lt_mul_of_pos_right (by omega) nT_pos
  unfold drainT
  conv_lhs => unfold debt
  iintro ⟨HB, ⟨%W', %hW', HO⟩, Hmw⟩ Hk
  ihave Hm := (Transfers.MayWaits.elim (SemLoc.dma semT)) $$ Hmw
  iapply (Transfers.wp_waitBatchO EC 𝒱₀ (thr d L) none (none : HIx 1) (N := nT) (D := backT d L w q ft) (u := u * nT) hN hu') $$ [HB HO Hm]
  · isplitl [HB]; · iexact HB
    isplitl [HO]; · iexact HO
    iexact Hm
  iintro ⟨HB, HO⟩
  iapply Hk
  rw [Nat.succ_mul]
  isplitl [HB]; · iexact HB
  iapply (debt_insert d L O W _ W' hW'); iexact HO

/-- The last wait of the box windows hands every slab and every share back, and the counter at zero. -/
theorem waitT_last {Q : α → sProp 𝕄} {src : Memref sig .scVector .hbm S4x128 .f32} {dst : Memref sig .scVector .vmem S4x128 .f32} (n : Fin 16) (hd : dst = slabT n)
    {h1 : src.view.WordExact} {h2 : dst.view.WordExact} {k : PUnit → Prog (TpuEff nD τ sig (Elt F) Λ₀ (thr d L).2) α} :
    iprop(drainT d L w q ft 15 ∗ debt d L O W ∗ Transfers.MayWaits (thr d L) (none : HIx 1) O)
      ⊢ iprop((iprop((bigSep Finset.univ fun k => backT d L w q ft k) ∗ semVal (thr d L, .dma semT) 0 ∗ debt d L O W)
          -∗ wp frame (wpE (defs₀ (F := F)) 𝒱₀ (thr d L) none) Set.univ (k ⟨⟩) Q)
        -∗ wp frame (wpE (defs₀ (F := F)) 𝒱₀ (thr d L) none) Set.univ
            (.op (.waitDma2 semT src dst h1 h2) k) Q) := by
  subst hd
  have hN : (slabT n).view.dmaCredit = nT := rfl
  have hu' : 15 * nT + nT = nT * 16 := by rw [← Nat.succ_mul, Nat.mul_comm nT]
  unfold drainT
  conv_lhs => unfold debt
  iintro ⟨HB, ⟨%W', %hW', HO⟩, Hmw⟩ Hk
  ihave Hm := (Transfers.MayWaits.elim (SemLoc.dma semT)) $$ Hmw
  iapply (Transfers.wp_waitBatchLastO EC 𝒱₀ (thr d L) none (none : HIx 1) (N := nT) (D := backT d L w q ft) (u := 15 * nT) hN nT_pos hu') $$ [HB HO Hm]
  · isplitl [HB]; · iexact HB
    isplitl [HO]; · iexact HO
    iexact Hm
  iintro ⟨HD, Hv, HO⟩
  iapply Hk
  isplitl [HD]; · iexact HD
  isplitl [Hv]; · iexact Hv
  iapply (debt_insert d L O W _ W' hW'); iexact HO

/-! ## Opening and closing a trip's copies -/

/-- What stays aside while the score windows are in flight: the undealt share, and each dealt share off its window. -/
def asideS : sProp 𝕄 :=
  iprop((aS.view.loc (thr d L) ↦{shareDrop q 16} fs)
    ∗ bigSep Finset.univ fun k : Fin 16 => aS.view.loc (thr d L) ↦[Finset.univ \ (winS (w k)).view.set]{shareTok q 16 k} fs)

theorem slabsS_univ : (Finset.univ : Finset (Fin 16)).biUnion (fun k => (slabS k).view.set) = (Finset.univ : Finset S16x8x128.Idx) := by
  ext i; simp only [Finset.mem_biUnion, Finset.mem_univ, true_and, iff_true]
  exact ⟨i 0, (mem_slabS _ i).mpr rfl⟩

theorem slabsS_disj : ∀ k ∈ (Finset.univ : Finset (Fin 16)), ∀ k' ∈ (Finset.univ : Finset (Fin 16)), k ≠ k' →
    Disjoint (slabS k).view.set (slabS k').view.set :=
  fun k _ k' _ h => Finset.disjoint_left.mpr fun i hi hi' => h (((mem_slabS k i).mp hi).symm.trans ((mem_slabS k' i).mp hi'))

theorem slabsS_pts (f : Buf (Elt F) (mS.view.loc (thr d L))) :
    (mS.view.loc (thr d L) ↦{fullShare} f : sProp 𝕄)
      = bigSep Finset.univ fun k : Fin 16 => mS.view.loc (thr d L) ↦[(slabS k).view.set]{fullShare} f := by
  rw [← pointsTo_biUnion _ _ slabsS_disj]
  exact congrArg (fun S => (mS.view.loc (thr d L) ↦[S]{fullShare} f : sProp 𝕄)) slabsS_univ.symm

theorem windowsS_pts :
    (aS.view.loc (thr d L) ↦{q} fs : sProp 𝕄)
      ⊣⊢ iprop((bigSep Finset.univ fun k : Fin 16 => aS.view.loc (thr d L) ↦[(winS (w k)).view.set]{shareTok q 16 k} fs) ∗ asideS d L w q fs) := by
  have h : (bigSep Finset.univ fun k : Fin 16 => (aS.view.loc (thr d L) ↦{shareTok q 16 k} fs : sProp 𝕄))
      = iprop((bigSep Finset.univ fun k : Fin 16 => aS.view.loc (thr d L) ↦[(winS (w k)).view.set]{shareTok q 16 k} fs)
        ∗ bigSep Finset.univ fun k : Fin 16 => aS.view.loc (thr d L) ↦[Finset.univ \ (winS (w k)).view.set]{shareTok q 16 k} fs) := by
    rw [← bigSep_sep']
    exact bigSep_congr fun k _ => BI.equiv_iff.mp ⟨(pointsTo_split_subset (Finset.subset_univ _)).1, (pointsTo_split_subset (Finset.subset_univ _)).2⟩
  unfold asideS
  refine (Transfers.pointsTo_toks q 16).trans ?_
  rw [h]
  constructor
  · iintro ⟨Hd, Hw, Hr⟩
    isplitl [Hw]; · iexact Hw
    isplitl [Hd] <;> iassumption
  · iintro ⟨Hw, Hd, Hr⟩
    isplitl [Hd]; · iexact Hd
    isplitl [Hw] <;> iassumption

theorem openS : iprop((mS.view.loc (thr d L) ↦{fullShare} gs) ∗ (aS.view.loc (thr d L) ↦{q} fs) ∗ semVal (thr d L, .dma semS) 0)
    ⊢ (|={Set.univ}=> iprop(issuedS d L w q fs gs 0 ∗ asideS d L w q fs) : sProp 𝕄) := by
  iintro ⟨Hm, Ha, Hv⟩
  imod (Transfers.batch_alloc' EC (thr d L) (none : HIx 1) nS (backS d L w q fs) (E := Set.univ)) $$ Hv with HB
  imodintro
  ihave Ha' := (windowsS_pts d L w q fs).1 $$ Ha
  icases Ha' with ⟨Hw, Hr⟩
  ihave Hm' := (Entails.of_eq (slabsS_pts d L gs)) $$ Hm
  isplitl [Hm' Hw HB]
  · unfold issuedS
    isplitl [Hm' Hw]
    · rw [Transfers.pending_zero, bigSep_sep']
      isplitl [Hm'] <;> iassumption
    · iexact HB
  · iexact Hr

theorem closeS : iprop((bigSep Finset.univ fun k => backS d L w q fs k) ∗ asideS d L w q fs)
    ⊢ (iprop((mS.view.loc (thr d L) ↦{fullShare} stagedS d L w fs) ∗ aS.view.loc (thr d L) ↦{q} fs) : sProp 𝕄) := by
  unfold backS
  rw [bigSep_sep', ← slabsS_pts]
  iintro ⟨⟨Hm, Hw⟩, Hr⟩
  isplitl [Hm]; · iexact Hm
  iapply (windowsS_pts d L w q fs).2
  isplitl [Hw] <;> iassumption

/-- What stays aside while the box windows are in flight: the undealt share, and each dealt share off its window. -/
def asideT : sProp 𝕄 :=
  iprop((aT.view.loc (thr d L) ↦{shareDrop q 16} ft)
    ∗ bigSep Finset.univ fun k : Fin 16 => aT.view.loc (thr d L) ↦[Finset.univ \ (winT (w k)).view.set]{shareTok q 16 k} ft)

theorem slabsT_univ : (Finset.univ : Finset (Fin 16)).biUnion (fun k => (slabT k).view.set) = (Finset.univ : Finset S16x4x128.Idx) := by
  ext i; simp only [Finset.mem_biUnion, Finset.mem_univ, true_and, iff_true]
  exact ⟨i 0, (mem_slabT _ i).mpr rfl⟩

theorem slabsT_disj : ∀ k ∈ (Finset.univ : Finset (Fin 16)), ∀ k' ∈ (Finset.univ : Finset (Fin 16)), k ≠ k' →
    Disjoint (slabT k).view.set (slabT k').view.set :=
  fun k _ k' _ h => Finset.disjoint_left.mpr fun i hi hi' => h (((mem_slabT k i).mp hi).symm.trans ((mem_slabT k' i).mp hi'))

theorem slabsT_pts (f : Buf (Elt F) (mT.view.loc (thr d L))) :
    (mT.view.loc (thr d L) ↦{fullShare} f : sProp 𝕄)
      = bigSep Finset.univ fun k : Fin 16 => mT.view.loc (thr d L) ↦[(slabT k).view.set]{fullShare} f := by
  rw [← pointsTo_biUnion _ _ slabsT_disj]
  exact congrArg (fun S => (mT.view.loc (thr d L) ↦[S]{fullShare} f : sProp 𝕄)) slabsT_univ.symm

theorem windowsT_pts :
    (aT.view.loc (thr d L) ↦{q} ft : sProp 𝕄)
      ⊣⊢ iprop((bigSep Finset.univ fun k : Fin 16 => aT.view.loc (thr d L) ↦[(winT (w k)).view.set]{shareTok q 16 k} ft) ∗ asideT d L w q ft) := by
  have h : (bigSep Finset.univ fun k : Fin 16 => (aT.view.loc (thr d L) ↦{shareTok q 16 k} ft : sProp 𝕄))
      = iprop((bigSep Finset.univ fun k : Fin 16 => aT.view.loc (thr d L) ↦[(winT (w k)).view.set]{shareTok q 16 k} ft)
        ∗ bigSep Finset.univ fun k : Fin 16 => aT.view.loc (thr d L) ↦[Finset.univ \ (winT (w k)).view.set]{shareTok q 16 k} ft) := by
    rw [← bigSep_sep']
    exact bigSep_congr fun k _ => BI.equiv_iff.mp ⟨(pointsTo_split_subset (Finset.subset_univ _)).1, (pointsTo_split_subset (Finset.subset_univ _)).2⟩
  unfold asideT
  refine (Transfers.pointsTo_toks q 16).trans ?_
  rw [h]
  constructor
  · iintro ⟨Hd, Hw, Hr⟩
    isplitl [Hw]; · iexact Hw
    isplitl [Hd] <;> iassumption
  · iintro ⟨Hw, Hd, Hr⟩
    isplitl [Hd]; · iexact Hd
    isplitl [Hw] <;> iassumption

theorem openT : iprop((mT.view.loc (thr d L) ↦{fullShare} gt) ∗ (aT.view.loc (thr d L) ↦{q} ft) ∗ semVal (thr d L, .dma semT) 0)
    ⊢ (|={Set.univ}=> iprop(issuedT d L w q ft gt 0 ∗ asideT d L w q ft) : sProp 𝕄) := by
  iintro ⟨Hm, Ha, Hv⟩
  imod (Transfers.batch_alloc' EC (thr d L) (none : HIx 1) nT (backT d L w q ft) (E := Set.univ)) $$ Hv with HB
  imodintro
  ihave Ha' := (windowsT_pts d L w q ft).1 $$ Ha
  icases Ha' with ⟨Hw, Hr⟩
  ihave Hm' := (Entails.of_eq (slabsT_pts d L gt)) $$ Hm
  isplitl [Hm' Hw HB]
  · unfold issuedT
    isplitl [Hm' Hw]
    · rw [Transfers.pending_zero, bigSep_sep']
      isplitl [Hm'] <;> iassumption
    · iexact HB
  · iexact Hr

theorem closeT : iprop((bigSep Finset.univ fun k => backT d L w q ft k) ∗ asideT d L w q ft)
    ⊢ (iprop((mT.view.loc (thr d L) ↦{fullShare} stagedT d L w ft) ∗ aT.view.loc (thr d L) ↦{q} ft) : sProp 𝕄) := by
  unfold backT
  rw [bigSep_sep', ← slabsT_pts]
  iintro ⟨⟨Hm, Hw⟩, Hr⟩
  isplitl [Hm]; · iexact Hm
  iapply (windowsT_pts d L w q ft).2
  isplitl [Hw] <;> iassumption

end Cert.Proof.Run

end
-- ==== Proof.Words.lean ====
/-
  The words a trip computes. From sixteen index triples (image `b`, label `l`, anchor `x`) the tile computes, per lane,
  the flat score row `l * 32 + b`, rounded down to a multiple of eight, and the anchor rounded down to a multiple of
  128; the copies it issues start there, and the remainders address the element inside the copied window.
-/
module

public import proofs.«01_k».proof.Proof.Windows

@[expose] public section

noncomputable section

namespace Cert.Proof.Run

open Cert.KernelIdeal Cert.KernelIdeal.Gen

open Idealize.ShloMosaic
open Idealize.ShloMosaic.ValueIdx

variable {F : FTy → Type} [FloatOps F]

/-! ## Masks -/

theorem and_low (x : BitVec 32) (n : ℕ) (hn : n < 32) : (x &&& BitVec.ofNat 32 (2 ^ n - 1)).toNat = x.toNat % 2 ^ n := by
  rw [BitVec.toNat_and, BitVec.toNat_ofNat, Nat.mod_eq_of_lt, Nat.and_two_pow_sub_one_eq_mod]
  calc 2 ^ n - 1 < 2 ^ n := Nat.sub_lt (Nat.two_pow_pos n) Nat.one_pos
    _ ≤ 2 ^ 32 := Nat.pow_le_pow_right (by decide) hn.le

theorem and_high8 (x : BitVec 32) : (x &&& 4294967288#32).toNat = x.toNat - x.toNat % 8 := by
  have h : x &&& 4294967288#32 = (x >>> 3) <<< 3 := by
    apply BitVec.eq_of_getLsbD_eq
    intro i hi
    interval_cases i <;> simp
  rw [h, BitVec.toNat_shiftLeft, BitVec.toNat_ushiftRight, Nat.shiftLeft_eq, Nat.shiftRight_eq_div_pow]
  have := x.isLt
  rw [Nat.mod_eq_of_lt (by omega)]; omega

theorem and_high128 (x : BitVec 32) : (x &&& 4294967168#32).toNat = x.toNat - x.toNat % 128 := by
  have h : x &&& 4294967168#32 = (x >>> 7) <<< 7 := by
    apply BitVec.eq_of_getLsbD_eq
    intro i hi
    interval_cases i <;> simp
  rw [h, BitVec.toNat_shiftLeft, BitVec.toNat_ushiftRight, Nat.shiftLeft_eq, Nat.shiftRight_eq_div_pow]
  have := x.isLt
  rw [Nat.mod_eq_of_lt (by omega)]; omega

/-! ## A trip's sixteen triples -/

/-- The triples index the tables: 32 images, 91 labels, and anchors whose 128-wide window lies inside the tables. -/
def InRange (v7 v9 v11 : Vec F S16 .i32) : Prop :=
  ∀ j : S16.Idx, (v7 j : BitVec 32).toNat < 32 ∧ (v9 j : BitVec 32).toNat < 91 ∧ (v11 j : BitVec 32).toNat < 19968

variable (v7 v9 v11 : Vec F S16 .i32)

theorem row_toNat (h : InRange v7 v9 v11) (j : S16.Idx) :
    (k0_pay1 v7 v9 j).toNat = (v9 j : BitVec 32).toNat * 32 + (v7 j : BitVec 32).toNat := by
  obtain ⟨hb, hl, -⟩ := h j
  show ((v9 j : BitVec 32) * 32#32 + (v7 j : BitVec 32)).toNat = _
  rw [BitVec.toNat_add, BitVec.toNat_mul, show (32#32 : BitVec 32).toNat = 32 from rfl]
  rw [Nat.mod_eq_of_lt (a := _ * 32) (by omega), Nat.mod_eq_of_lt (by omega)]

theorem rowBase_toNat (j : S16.Idx) : (k0_pay2 v7 v9 j).toNat = (k0_pay1 v7 v9 j).toNat - (k0_pay1 v7 v9 j).toNat % 8 := and_high8 _
theorem anchorBase_toNat (j : S16.Idx) : (k0_pay3 v11 j).toNat = (v11 j : BitVec 32).toNat - (v11 j : BitVec 32).toNat % 128 := and_high128 _
theorem rowRest_toNat (v14 : IVec S16 32) (j : S16.Idx) : (k0_pay55 v14 j).toNat = (v14 j).toNat % 8 := and_low _ 3 (by decide)
theorem anchorRest_toNat (j : S16.Idx) : (k0_pay54 v11 j).toNat = (v11 j : BitVec 32).toNat % 128 := and_low _ 7 (by decide)

/-! ## A lane's words, as the program extracts them -/

theorem lane_slices (k : Fin 16) : S16.Slices ![k.val] S1 := ⟨rfl, fun a => by have := k.isLt; fin_cases a; show k.val + 1 ≤ 16; omega⟩

abbrev laneWord (v : IVec S16 32) (k : Fin 16) : BitVec 32 := extractAt ![0] (extractStridedSlice S1 ![k.val] v (lane_slices k)) inpos_S1_p0

theorem laneWord_eq (v : IVec S16 32) (k : Fin 16) : laneWord v k = v (ix1 k) := by
  show extractStridedSlice S1 ![k.val] v (lane_slices k) _ = _
  refine extractStridedSlice_apply _ _ _ _ _ fun a => ?_
  obtain rfl : a = 0 := Subsingleton.elim _ _
  rfl

theorem check_row (w : BitVec 32) (h : 8 ∣ w.toNat) : k0_chk1 w := h

theorem check_lane (b r x : BitVec 32) (hx : 128 ∣ x.toNat) (hr : r.toNat + 8 ≤ 2912) (hxu : x.toNat + 128 ≤ 20000) (hb : b.toNat < 32) :
    k0_chk2 b r x := by
  have h2 : ∀ a : Fin 2, (![r.toNat, x.toNat] : Fin 2 → ℕ) a + S8x128.size a ≤ S2912x20000.size a := by
    intro a; fin_cases a <;> simp <;> omega
  have h3 : ∀ a : Fin 3, (![b.toNat, 0, x.toNat] : Fin 3 → ℕ) a + S1x4x128.size a ≤ S32x4x20000.size a := by
    intro a; fin_cases a <;> simp <;> omega
  exact ⟨hx, h2, h3, h2, h3⟩

variable {v7 v9 v11}

theorem lane_row (h : InRange v7 v9 v11) (k : Fin 16) : 8 ∣ (laneWord (k0_pay2 v7 v9) k).toNat := by
  rw [laneWord_eq, rowBase_toNat]; omega

theorem lane_ok (h : InRange v7 v9 v11) (k : Fin 16) : k0_chk2 (laneWord v7 k) (laneWord (k0_pay2 v7 v9) k) (laneWord (k0_pay3 v11) k) := by
  obtain ⟨hb, hl, hx⟩ := h (ix1 k)
  have hr := row_toNat v7 v9 v11 h (ix1 k)
  apply check_lane
  · rw [laneWord_eq, anchorBase_toNat]; omega
  · rw [laneWord_eq, rowBase_toNat]; omega
  · rw [laneWord_eq, anchorBase_toNat]; omega
  · rw [laneWord_eq]; exact hb

/-- Lane `k` of the trip's triples. -/
def laneOf (h : InRange v7 v9 v11) (k : Fin 16) : Lane := ⟨laneWord v7 k, laneWord (k0_pay2 v7 v9) k, laneWord (k0_pay3 v11) k, lane_ok h k⟩

end Cert.Proof.Run

end
-- ==== Proof.Rows.lean ====
/-
  What a tile writes. `want` is the result's column for one triple; `putRow` is a tile's 8×512 block with sixteen words
  of one row replaced; `Done` says the block's first `16 * t` columns are as wanted, and `done_step` that a trip's seven
  rows extend it by sixteen.
-/
module

public import proofs.«01_k».proof.Proof.Words

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

theorem trips_eq : k0_t1_loop.trips = 32 := by decide
theorem trip_lt (t : Fin k0_t1_loop.trips) : t.val < 32 := t.isLt.trans_eq trips_eq

/-! ## The column wanted for one triple -/

/-- Row `r` of the column for the triple `(b, l, x)`: the image, the four box numbers, the score, the label. -/
def want (fs : S2912x20000.Idx → F .f32) (ft : S32x4x20000.Idx → F .f32) (b l x : BitVec 32) (r : Fin 8) : F .f32 :=
  if r = 0 then FloatOps.sitofp .f32 b
  else if r = 5 then fs (ix2 ⟨(l.toNat * 32 + b.toNat) % 2912, Nat.mod_lt _ (by decide)⟩ ⟨x.toNat % 20000, Nat.mod_lt _ (by decide)⟩)
  else if r = 6 then FloatOps.sitofp .f32 l
  else ft (ix3 ⟨b.toNat % 32, Nat.mod_lt _ (by decide)⟩ ⟨(r.val - 1) % 4, Nat.mod_lt _ (by decide)⟩ ⟨x.toNat % 20000, Nat.mod_lt _ (by decide)⟩)

/-- Column `j` of trip `t`, among a tile's 512. -/
def col (t : Fin k0_t1_loop.trips) (j : Fin 16) : Fin 512 := ⟨16 * t.val + j.val, by have := trip_lt t; omega⟩

/-- The block's columns before `16 * t` are as wanted, in every row the kernel's result keeps. -/
def Done (fs : S2912x20000.Idx → F .f32) (ft : S32x4x20000.Idx → F .f32) (fb fl fx : S512.Idx → BitVec 32) (t : ℕ) (o : S8x512.Idx → F .f32) : Prop :=
  ∀ (r : Fin 8) (j : Fin 512), r ≠ 7 → j.val < 16 * t → o (ix2 r j) = want fs ft (fb (ix1 j)) (fl (ix1 j)) (fx (ix1 j)) r

/-! ## Sixteen words of one row -/

/-- `o` with columns `16 * t … 16 * t + 15` of row `r` replaced by `v`. -/
def putRow (r : Fin 8) (t : Fin k0_t1_loop.trips) (v : S16.Idx → F .f32) (o : S8x512.Idx → F .f32) : S8x512.Idx → F .f32 :=
  fun i => if (i 0).val = r.val ∧ (i 1).val / 16 = t.val then v (ix1 ⟨(i 1).val % 16, Nat.mod_lt _ (by decide)⟩) else o i

theorem putRow_same (r : Fin 8) (t : Fin k0_t1_loop.trips) (v : S16.Idx → F .f32) (o : S8x512.Idx → F .f32) (j : Fin 16) :
    putRow r t v o (ix2 r (col t j)) = v (ix1 j) := by
  have hd : (col t j).val / 16 = t.val := by show (16 * t.val + j.val) / 16 = t.val; omega
  have hm : (⟨(col t j).val % 16, Nat.mod_lt _ (by decide)⟩ : Fin 16) = j := Fin.ext (by show (16 * t.val + j.val) % 16 = j.val; omega)
  unfold putRow
  rw [if_pos ⟨rfl, hd⟩]
  exact congrArg (fun k => v (ix1 k)) hm

theorem putRow_row (r r' : Fin 8) (h : r' ≠ r) (t : Fin k0_t1_loop.trips) (v : S16.Idx → F .f32) (o : S8x512.Idx → F .f32) (j : Fin 512) :
    putRow r t v o (ix2 r' j) = o (ix2 r' j) := if_neg (c := r'.val = r.val ∧ _) fun hh => h (Fin.ext hh.1)

theorem putRow_before (r r' : Fin 8) (t : Fin k0_t1_loop.trips) (v : S16.Idx → F .f32) (o : S8x512.Idx → F .f32) (j : Fin 512) (h : j.val < 16 * t.val) :
    putRow r t v o (ix2 r' j) = o (ix2 r' j) := if_neg (c := r'.val = r.val ∧ j.val / 16 = t.val) fun hh => by
  have := hh.2
  omega

/-- A trip's seven rows, as it stores them. -/
def putRows (t : Fin k0_t1_loop.trips) (v : Fin 8 → S16.Idx → F .f32) (o : S8x512.Idx → F .f32) : S8x512.Idx → F .f32 :=
  putRow 4 t (v 4) <| putRow 3 t (v 3) <| putRow 2 t (v 2) <| putRow 1 t (v 1) <| putRow 5 t (v 5) <| putRow 6 t (v 6) <| putRow 0 t (v 0) o

theorem putRows_same (t : Fin k0_t1_loop.trips) (v : Fin 8 → S16.Idx → F .f32) (o : S8x512.Idx → F .f32) (r : Fin 8) (hr : r ≠ 7) (j : Fin 16) :
    putRows t v o (ix2 r (col t j)) = v r (ix1 j) := by
  unfold putRows
  fin_cases r
  all_goals first
    | exact absurd rfl hr
    | (repeat' first
        | exact putRow_same _ _ _ _ _
        | refine (putRow_row _ _ (by decide) _ _ _ _).trans ?_)

theorem done_step {fs : S2912x20000.Idx → F .f32} {ft : S32x4x20000.Idx → F .f32} {fb fl fx : S512.Idx → BitVec 32} (t : Fin k0_t1_loop.trips)
    {o : S8x512.Idx → F .f32} (ho : Done fs ft fb fl fx t.val o) (v : Fin 8 → S16.Idx → F .f32)
    (hv : ∀ r, r ≠ 7 → ∀ j, v r (ix1 j) = want fs ft (fb (ix1 (col t j))) (fl (ix1 (col t j))) (fx (ix1 (col t j))) r) :
    Done fs ft fb fl fx (t.val + 1) (putRows t v o) := by
  intro r j hr hj
  by_cases h : j.val < 16 * t.val
  · rw [← ho r j hr h]
    unfold putRows
    rw [putRow_before _ _ _ _ _ _ h, putRow_before _ _ _ _ _ _ h, putRow_before _ _ _ _ _ _ h, putRow_before _ _ _ _ _ _ h,
      putRow_before _ _ _ _ _ _ h, putRow_before _ _ _ _ _ _ h, putRow_before _ _ _ _ _ _ h]
  · obtain ⟨k, rfl⟩ : ∃ k : Fin 16, j = col t k := ⟨⟨j.val - 16 * t.val, by omega⟩, Fin.ext (by show j.val = 16 * t.val + (j.val - 16 * t.val); omega)⟩
    rw [putRows_same t v o r hr k, hv r hr k]

/-! ## A store of sixteen words, and a load of sixteen -/

theorem store_putRow (r : Fin 8) (t : Fin k0_t1_loop.trips) {off : Fin 2 → ℕ} (ho : off = ![r.val, 16 * t.val]) (hb : ∀ a, off a + S1x16.size a ≤ S8x512.size a)
    (v : S16.Idx → F .f32) (o : S8x512.Idx → F .f32) :
    ((sO.access (Rect.unit (s := S8x512) off S1x16.size hb)).write (Elt F) o (shapeCast S1x16 v shapeCasts_S16_S1x16) Finset.univ : S8x512.Idx → F .f32) = putRow r t v o := by
  subst ho
  have he : ∀ j : Fin 16, (sO.access (Rect.unit (s := S8x512) ![r.val, 16 * t.val] S1x16.size hb)).emb (ix2 (0 : Fin 1) j) = (ix2 r (col t j) : S8x512.Idx) := by
    intro j; funext a; apply Fin.ext
    match a with
    | 0 => show r.val + 1 * 0 = r.val; omega
    | 1 => show 16 * t.val + 1 * j.val = 16 * t.val + j.val; omega
  have hw : ∀ j : Fin 16, (sO.access (Rect.unit (s := S8x512) ![r.val, 16 * t.val] S1x16.size hb)).write (Elt F) o
      (shapeCast S1x16 v shapeCasts_S16_S1x16) Finset.univ (ix2 r (col t j) : S8x512.Idx) = v (ix1 j) := by
    intro j
    rw [← he j]
    refine (View.write_emb_of_mem (Val := Elt F) _ _ (Finset.mem_univ _)).trans ?_
    exact shapeCast_apply v _ (ix2 (0 : Fin 1) j : S1x16.Idx) (ix1 j : S16.Idx) (by rw [Shape.rowMajor_val_one, Shape.rowMajor_val_two]; show j.val = 0 * 16 + j.val; omega)
  funext i
  obtain ⟨a, c, rfl⟩ : ∃ (a : Fin 8) (c : Fin 512), i = (ix2 a c : S8x512.Idx) := ⟨i 0, i 1, eq_ix2 (n0 := 8) (n1 := 512) i⟩
  by_cases h : a = r ∧ c.val / 16 = t.val
  · obtain ⟨rfl, h1⟩ := h
    obtain ⟨k, rfl⟩ : ∃ k : Fin 16, c = col t k := ⟨⟨c.val % 16, Nat.mod_lt _ (by decide)⟩, Fin.ext (by show c.val = 16 * t.val + c.val % 16; omega)⟩
    exact (hw _).trans (putRow_same a t v o _).symm
  · refine Eq.trans ?_ (if_neg (c := a.val = r.val ∧ c.val / 16 = t.val) fun hh => h ⟨Fin.ext hh.1, hh.2⟩).symm
    refine View.write_of_not_mem (Val := Elt F) _ _ _ fun hm => h ?_
    obtain ⟨y, -, hy⟩ := Finset.mem_map.mp hm
    have hy0 : y = (ix2 (0 : Fin 1) (y 1) : S1x16.Idx) := (eq_ix2 (n0 := 1) (n1 := 16) y).trans (congrArg (fun z : Fin 1 => ix2 z (y 1)) (Subsingleton.elim _ _))
    rw [hy0] at hy
    have hy' := (he (y 1)).symm.trans hy
    have h0 : r = a := congrFun hy' 0
    have h1 : col t (y 1) = c := congrFun hy' 1
    refine ⟨h0.symm, ?_⟩
    rw [← h1]; show (16 * t.val + (y 1).val) / 16 = t.val
    have : (y 1).val < 16 := (y 1).isLt
    omega

theorem load_emb (t : Fin k0_t1_loop.trips) (j : Fin 16) :
    (Rect.unit (s := S512) (k0_off2 t) S16.size (k0_off2_inb t)).emb (ix1 j) = (ix1 (col t j) : S512.Idx) := by
  funext a; apply Fin.ext
  obtain rfl : a = 0 := Subsingleton.elim _ _
  show k0_off2 t 0 + 1 * j.val = 16 * t.val + j.val
  rw [k0_off2_eq]; show 16 * t.val + 1 * j.val = _; omega

end Cert.Proof.Run

end
-- ==== Proof.Steps.lean ====
/-
  One trip's steps, each for any lane or row: a lane's two checks and two copies (`lane`), a lane's two waits (`settle`,
  `settle_last`), the store of sixteen words of a row (`wp_putRow`).
-/
module

public import proofs.«01_k».proof.Proof.Rows

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending shareTok shareDrop)

variable {F : FTy → Type} [FloatOps F]

local notation "𝕄" => MM F

variable (d : Dev nD) (L : grid0.Coords) (w : Fin 16 → Lane) (qs qt : PosShare TreeShare)
  (fs : Buf (Elt F) (aS.view.loc (thr d L))) (ft : Buf (Elt F) (aT.view.loc (thr d L)))
  (gs : Buf (Elt F) (mS.view.loc (thr d L))) (gt : Buf (Elt F) (mT.view.loc (thr d L)))
  (O : CellTallies nD τ sig (HIx 1)) (W : Waits sig (HIx 1))

/-- Both kinds' copies, the first `n` lanes' issued; and both kinds', all issued, with `u` lanes' waits done. -/
def issued (n : ℕ) : sProp 𝕄 := iprop(issuedS d L w qs fs gs n ∗ issuedT d L w qt ft gt n)
def drain (u : ℕ) : sProp 𝕄 := iprop(drainS d L w qs fs u ∗ drainT d L w qt ft u ∗ debt d L O W)

variable {α : Type}

/-- Lane `n`: the program checks its row and its windows, and issues its two copies. -/
theorem lane {Q : α → sProp 𝕄} (n : ℕ) (hn : n < 16) {P₁ P₂ : Prop} {d₁ : Decidable P₁} {d₂ : Decidable P₂} (h₁ : P₁) (h₂ : P₂)
    {src : PLift P₂ → Memref sig .scVector .hbm S8x128 .f32} {dst : Memref sig .scVector .vmem S8x128 .f32}
    {src' : PLift P₂ → Memref sig .scVector .hbm S4x128 .f32} {dst' : Memref sig .scVector .vmem S4x128 .f32}
    (hs : src ⟨h₂⟩ = winS (w ⟨n, hn⟩)) (hd : dst = slabS ⟨n, hn⟩) (hs' : src' ⟨h₂⟩ = winT (w ⟨n, hn⟩)) (hd' : dst' = slabT ⟨n, hn⟩)
    {a₁ : ∀ h, (src h).view.WordExact} {a₂ : dst.view.WordExact} {a₃ : DmaTarget.Typed (nD := nD) (τ := τ) (p := (thr d L).2) .hbm (.dma semS) (.here dst)}
    {b₁ : ∀ h, (src' h).view.WordExact} {b₂ : dst'.view.WordExact} {b₃ : DmaTarget.Typed (nD := nD) (τ := τ) (p := (thr d L).2) .hbm (.dma semT) (.here dst')}
    {k : PLift P₂ → Prog (TpuEff nD τ sig (Elt F) Λ₀ (thr d L).2) α} :
    issued d L w qs qt fs ft gs gt n
      ⊢ iprop((issued d L w qs qt fs ft gs gt (n + 1) -∗ wp frame (wpE (defs₀ (F := F)) 𝒱₀ (thr d L) none) Set.univ (k ⟨h₂⟩) Q)
        -∗ wp frame (wpE (defs₀ (F := F)) 𝒱₀ (thr d L) none) Set.univ
            (.op (.assume P₁ d₁) fun _ => .op (.assume P₂ d₂) fun h => .op (.enqueueDmaAs (src h) (.here dst) .same (.dma semS) (a₁ h) a₂ a₃) fun _ =>
              .op (.enqueueDmaAs (src' h) (.here dst') .same (.dma semT) (b₁ h) b₂ b₃) fun _ => k h) Q) := by
  unfold issued
  iintro ⟨HS, HT⟩ Hk
  iapply (wp_assume 𝒱₀ (thr d L) none Set.univ h₁)
  iapply (wp_assume 𝒱₀ (thr d L) none Set.univ h₂)
  iapply (issueS d L w qs fs gs n hn hs hd) $$ HS
  iintro HS
  iapply (issueT d L w qt ft gt n hn hs' hd') $$ HT
  iintro HT
  iapply Hk
  isplitl [HS] <;> iassumption

theorem issued_drain : iprop(issued d L w qs qt fs ft gs gt 16 ∗ debt d L O W) ⊢ (drain d L w qs qt fs ft O W 0 : sProp 𝕄) := by
  unfold issued drain
  iintro ⟨⟨HS, HT⟩, HO⟩
  isplitl [HS]; · iapply (issuedS_drain d L w qs fs gs); iexact HS
  isplitl [HT]; · iapply (issuedT_drain d L w qt ft gt); iexact HT
  iexact HO

/-- Lane `u`'s two waits, for a lane before the last. -/
theorem settle {Q : α → sProp 𝕄} (u : ℕ) (hu : u < 15) (n : Fin 16)
    {src : Memref sig .scVector .hbm S8x128 .f32} {dst : Memref sig .scVector .vmem S8x128 .f32}
    {src' : Memref sig .scVector .hbm S4x128 .f32} {dst' : Memref sig .scVector .vmem S4x128 .f32} (hd : dst = slabS n) (hd' : dst' = slabT n)
    {a₁ : src.view.WordExact} {a₂ : dst.view.WordExact} {b₁ : src'.view.WordExact} {b₂ : dst'.view.WordExact}
    {k : PUnit → Prog (TpuEff nD τ sig (Elt F) Λ₀ (thr d L).2) α} :
    iprop(drain d L w qs qt fs ft O W u ∗ Transfers.MayWaits (thr d L) (none : HIx 1) O)
      ⊢ iprop((drain d L w qs qt fs ft O W (u + 1) -∗ wp frame (wpE (defs₀ (F := F)) 𝒱₀ (thr d L) none) Set.univ (k ⟨⟩) Q)
        -∗ wp frame (wpE (defs₀ (F := F)) 𝒱₀ (thr d L) none) Set.univ
            (.op (.waitDma2 semS src dst a₁ a₂) fun _ => .op (.waitDma2 semT src' dst' b₁ b₂) k) Q) := by
  unfold drain
  iintro ⟨⟨HS, HT, HO⟩, #Hm⟩ Hk
  iapply (waitS d L w qs fs O W u hu n hd) $$ [HS HO]
  · isplitl [HS]; · iexact HS
    isplitl [HO]; · iexact HO
    iexact Hm
  iintro ⟨HS, HO⟩
  iapply (waitT d L w qt ft O W u hu n hd') $$ [HT HO]
  · isplitl [HT]; · iexact HT
    isplitl [HO]; · iexact HO
    iexact Hm
  iintro ⟨HT, HO⟩
  iapply Hk
  isplitl [HS]; · iexact HS
  isplitl [HT] <;> iassumption

/-- The last lane's two waits: both staging arrays staged, the tables' shares and the counters back. -/
theorem settle_last {Q : α → sProp 𝕄} (n : Fin 16)
    {src : Memref sig .scVector .hbm S8x128 .f32} {dst : Memref sig .scVector .vmem S8x128 .f32}
    {src' : Memref sig .scVector .hbm S4x128 .f32} {dst' : Memref sig .scVector .vmem S4x128 .f32} (hd : dst = slabS n) (hd' : dst' = slabT n)
    {a₁ : src.view.WordExact} {a₂ : dst.view.WordExact} {b₁ : src'.view.WordExact} {b₂ : dst'.view.WordExact}
    {k : PUnit → Prog (TpuEff nD τ sig (Elt F) Λ₀ (thr d L).2) α} :
    iprop(drain d L w qs qt fs ft O W 15 ∗ Transfers.MayWaits (thr d L) (none : HIx 1) O ∗ asideS d L w qs fs ∗ asideT d L w qt ft)
      ⊢ iprop((iprop((mS.view.loc (thr d L) ↦{fullShare} stagedS d L w fs) ∗ (mT.view.loc (thr d L) ↦{fullShare} stagedT d L w ft)
            ∗ (aS.view.loc (thr d L) ↦{qs} fs) ∗ (aT.view.loc (thr d L) ↦{qt} ft)
            ∗ semVal (thr d L, .dma semS) 0 ∗ semVal (thr d L, .dma semT) 0 ∗ debt d L O W)
          -∗ wp frame (wpE (defs₀ (F := F)) 𝒱₀ (thr d L) none) Set.univ (k ⟨⟩) Q)
        -∗ wp frame (wpE (defs₀ (F := F)) 𝒱₀ (thr d L) none) Set.univ
            (.op (.waitDma2 semS src dst a₁ a₂) fun _ => .op (.waitDma2 semT src' dst' b₁ b₂) k) Q) := by
  unfold drain
  iintro ⟨⟨HS, HT, HO⟩, #Hm, HaS, HaT⟩ Hk
  iapply (waitS_last d L w qs fs O W n hd) $$ [HS HO]
  · isplitl [HS]; · iexact HS
    isplitl [HO]; · iexact HO
    iexact Hm
  iintro ⟨HS, HvS, HO⟩
  iapply (waitT_last d L w qt ft O W n hd') $$ [HT HO]
  · isplitl [HT]; · iexact HT
    isplitl [HO]; · iexact HO
    iexact Hm
  iintro ⟨HT, HvT, HO⟩
  ihave HS := (closeS d L w qs fs) $$ [HS HaS]
  · isplitl [HS] <;> iassumption
  ihave HT := (closeT d L w qt ft) $$ [HT HaT]
  · isplitl [HT] <;> iassumption
  icases HS with ⟨HmS, HaS⟩
  icases HT with ⟨HmT, HaT⟩
  iapply Hk
  isplitl [HmS]; · iexact HmS
  isplitl [HmT]; · iexact HmT
  isplitl [HaS]; · iexact HaS
  isplitl [HaT]; · iexact HaT
  isplitl [HvS]; · iexact HvS
  isplitl [HvT] <;> iassumption

/-- Sixteen words of row `r`: the program reads the words it is about to replace, and stores. -/
theorem wp_putRow {Q : α → sProp 𝕄} (r : Fin 8) (t : Fin k0_t1_loop.trips) {off : Fin 2 → ℕ} (ho : off = ![r.val, 16 * t.val])
    {hb hb' : ∀ a, off a + S1x16.size a ≤ S8x512.size a} {v : S16.Idx → F .f32} {o : Buf (Elt F) (sO.view.loc (thr d L))}
    {hl : sO.view.LoadsAt (Rect.unit (s := S8x512) off S1x16.size hb).toLoadRect}
    {hx : (sO.access (Rect.unit (s := S8x512) off S1x16.size hb')).Stores Finset.univ} {hm : (Finset.univ : Finset S1x16.Idx) = Finset.univ ∨ ∀ a, (Rect.unit (s := S8x512) off S1x16.size hb').stride a = 1}
    {k : PUnit → Prog (TpuEff nD τ sig (Elt F) Λ₀ (thr d L).2) α} :
    (sO.view.loc (thr d L) ↦{fullShare} o)
      ⊢ iprop(((sO.view.loc (thr d L) ↦{fullShare} (putRow r t v o : Buf (Elt F) (sO.view.loc (thr d L))))
          -∗ wp frame (wpE (defs₀ (F := F)) 𝒱₀ (thr d L) none) Set.univ (k ⟨⟩) Q)
        -∗ wp frame (wpE (defs₀ (F := F)) 𝒱₀ (thr d L) none) Set.univ
            (.op (.load sO (Rect.unit (s := S8x512) off S1x16.size hb).toLoadRect hl) fun _ =>
              .op (.store sO (Rect.unit (s := S8x512) off S1x16.size hb') (shapeCast S1x16 v shapeCasts_S16_S1x16) Finset.univ hx hm) k) Q) := by
  iintro Ho Hk
  iapply (wp_load 𝒱₀ (thr d L) none Set.univ (m := sO) (S := Finset.univ) (Finset.subset_univ _)) $$ Ho
  iintro Ho
  iapply (wp_store 𝒱₀ (thr d L) none Set.univ (m := sO) (r := Rect.unit (s := S8x512) off S1x16.size hb') (f := o) (S := Finset.univ) (Finset.subset_univ _)) $$ Ho
  iintro Ho
  iapply Hk
  have h := store_putRow r t ho hb' v o
  iapply (Entails.of_eq (congrArg (fun g : Buf (Elt F) (sO.view.loc (thr d L)) => (sO.view.loc (thr d L) ↦{fullShare} g : sProp 𝕄)) h))
  iexact Ho

/-- Sixteen words of one of the tile's three index chunks, loaded: what the program goes on with, and its words. -/
theorem wp_triples {Q : α → sProp 𝕄} (t : Fin k0_t1_loop.trips) {m : Memref sig .scVector .vmem S512 .i32} {hl : m.view.LoadsAt (Rect.unit (s := S512) (k0_off2 t) S16.size (k0_off2_inb t)).toLoadRect}
    {f : Buf (Elt F) (m.view.loc (thr d L))} {k : Vec F S16 .i32 → Prog (TpuEff nD τ sig (Elt F) Λ₀ (thr d L).2) α} (g : S512.Idx → BitVec 32)
    (hg : ∀ j : Fin 16, (m.view.readAt (Elt F) (Rect.unit (s := S512) (k0_off2 t) S16.size (k0_off2_inb t)).toLoadRect f : Vec F S16 .i32) (ix1 j) = g (ix1 (col t j))) :
    (m.view.loc (thr d L) ↦{fullShare} f)
      ⊢ iprop((∀ v : Vec F S16 .i32, iprop(⌜∀ j, v (ix1 j) = g (ix1 (col t j))⌝ -∗ (m.view.loc (thr d L) ↦{fullShare} f)
          -∗ wp frame (wpE (defs₀ (F := F)) 𝒱₀ (thr d L) none) Set.univ (k v) Q))
        -∗ wp frame (wpE (defs₀ (F := F)) 𝒱₀ (thr d L) none) Set.univ
            (.op (.load m (Rect.unit (s := S512) (k0_off2 t) S16.size (k0_off2_inb t)).toLoadRect hl) k) Q) := by
  iintro Hm Hk
  iapply (wp_load 𝒱₀ (thr d L) none Set.univ (m := m) (S := Finset.univ) (Finset.subset_univ _)) $$ Hm
  iintro Hm
  iapply Hk $$ %_ %hg Hm

end Cert.Proof.Run

end
-- ==== Proof.Gather.lean ====
/-
  The indexed loads of a trip. The staging arrays hold, at slab `k`, the windows of lane `k`'s triple; the loads pick
  from slab `k` the element at the triple's place in the window, and what they read is the tables' element at the triple.
-/
module

public import proofs.«01_k».proof.Proof.Rows

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The lane numbers. -/
abbrev lanes : IVec S16 32 := iota .scVector S16 32 [0] iota_S16_d0_w32_scVector

theorem lanes_toNat (j : Fin 16) : (lanes (ix1 j)).toNat = j.val := by
  show (BitVec.ofNat 32 (0 * 16 + j.val)).toNat = j.val
  rw [BitVec.toNat_ofNat, Nat.mod_eq_of_lt (by omega)]; omega

variable {v7 v9 v11 : Vec F S16 .i32} (h : InRange v7 v9 v11)

/-! ## The checks -/

theorem check_score : k0_chk33 lanes (k0_pay54 v11) (k0_pay55 (k0_pay1 v7 v9)) := by
  intro a x
  rw [eq_ix1 x]
  match a with
  | 0 => exact (lanes_toNat (x 0)).trans_lt (x 0).isLt
  | 1 => exact (rowRest_toNat _ _).trans_lt (Nat.mod_lt _ (by decide))
  | 2 => exact (anchorRest_toNat _ _).trans_lt (Nat.mod_lt _ (by decide))

theorem check_box (c : BitVec 32) (hc : c.toNat < 4) : k0_chk34 lanes (k0_pay54 v11) (broadcast S16 c) := by
  intro a x
  rw [eq_ix1 x]
  match a with
  | 0 => exact (lanes_toNat (x 0)).trans_lt (x 0).isLt
  | 1 => exact hc
  | 2 => exact (anchorRest_toNat _ _).trans_lt (Nat.mod_lt _ (by decide))

/-! ## What they read -/

variable (d : Dev nD) (L : grid0.Coords) (fs : Buf (Elt F) (aS.view.loc (thr d L))) (ft : Buf (Elt F) (aT.view.loc (thr d L)))

theorem read_mS (f : Buf (Elt F) (mS.view.loc (thr d L))) (i : S16x8x128.Idx) : (mS.access (.whole S16x8x128)).read (Elt F) f i = f i :=
  congrArg f (funext fun a => Fin.ext (by show 0 + 1 * (i a).val = (i a).val; omega))
theorem read_mT (f : Buf (Elt F) (mT.view.loc (thr d L))) (i : S16x4x128.Idx) : (mT.access (.whole S16x4x128)).read (Elt F) f i = f i :=
  congrArg f (funext fun a => Fin.ext (by show 0 + 1 * (i a).val = (i a).val; omega))

theorem winS_read (w : Lane) (a : Fin 8) (c : Fin 128) (i : S2912x20000.Idx) (h0 : w.r.toNat + a.val = (i 0).val) (h1 : w.x.toNat + c.val = (i 1).val) :
    (winS w).view.read (Elt F) fs (ix2 a c) = fs i := by
  refine congrArg fs (funext fun z => Fin.ext ?_)
  match z with
  | 0 => show w.r.toNat + 1 * a.val = (i 0).val; omega
  | 1 => show w.x.toNat + 1 * c.val = (i 1).val; omega

theorem winT_read (w : Lane) (a : Fin 4) (c : Fin 128) (i : S32x4x20000.Idx) (h0 : w.b.toNat = (i 0).val) (h1 : a.val = (i 1).val) (h2 : w.x.toNat + c.val = (i 2).val) :
    (winT w).view.read (Elt F) ft (ix2 a c) = ft i := by
  show ft ((Rect.unit (s := S32x4x20000) (k0_off4 w.b w.x) S1x4x128.size (k0_off4_inb w.b w.r w.x w.ok)).emb (Shape.reshapeEquiv _ (ix2 a c))) = _
  erw [reshapeEquiv_ix2_1ab]
  refine congrArg ft (funext fun z => Fin.ext ?_)
  match z with
  | 0 => show w.b.toNat + 1 * 0 = (i 0).val; omega
  | 1 => show 0 + 1 * a.val = (i 1).val; omega
  | 2 => show w.x.toNat + 1 * c.val = (i 2).val; omega

theorem gather_score (hc : ∀ a x, ((![lanes, k0_pay55 (k0_pay1 v7 v9), k0_pay54 v11] : Fin 3 → IVec S16 32) a x).toNat < S16x8x128.size a) (j : Fin 16) :
    loadIdx ((mS.access (.whole S16x8x128)).read (Elt F) (stagedS d L (laneOf h) fs)) ![lanes, k0_pay55 (k0_pay1 v7 v9), k0_pay54 v11] hc (ix1 j)
      = want fs ft (v7 (ix1 j)) (v9 (ix1 j)) (v11 (ix1 j)) 5 := by
  obtain ⟨hb, hl, hx⟩ := h (ix1 j)
  have hr := row_toNat v7 v9 v11 h (ix1 j)
  have hi : idxAt ![lanes, k0_pay55 (k0_pay1 v7 v9), k0_pay54 v11] hc (ix1 j)
      = (ix3 j ⟨(k0_pay1 v7 v9 (ix1 j)).toNat % 8, Nat.mod_lt _ (by decide)⟩ ⟨(v11 (ix1 j) : BitVec 32).toNat % 128, Nat.mod_lt _ (by decide)⟩ : S16x8x128.Idx) := by
    funext a; apply Fin.ext
    match a with
    | 0 => exact lanes_toNat j
    | 1 => exact rowRest_toNat _ _
    | 2 => exact anchorRest_toNat _ _
  refine (read_mS d L _ _).trans ?_
  rw [hi]
  refine (winS_read d L fs (laneOf h j) _ _ (ix2 ⟨((v9 (ix1 j) : BitVec 32).toNat * 32 + (v7 (ix1 j) : BitVec 32).toNat) % 2912, Nat.mod_lt _ (by decide)⟩
      ⟨(v11 (ix1 j) : BitVec 32).toNat % 20000, Nat.mod_lt _ (by decide)⟩) ?_ ?_).trans ?_
  · show (laneWord (k0_pay2 v7 v9) j).toNat + (k0_pay1 v7 v9 (ix1 j)).toNat % 8 = ((v9 (ix1 j) : BitVec 32).toNat * 32 + (v7 (ix1 j) : BitVec 32).toNat) % 2912
    rw [laneWord_eq, rowBase_toNat, hr]
    rw [Nat.mod_eq_of_lt (b := 2912) (by omega)]; omega
  · show (laneWord (k0_pay3 v11) j).toNat + (v11 (ix1 j) : BitVec 32).toNat % 128 = (v11 (ix1 j) : BitVec 32).toNat % 20000
    rw [laneWord_eq, anchorBase_toNat]; omega
  · rfl

theorem gather_box (c : BitVec 32) (hc4 : c.toNat < 4) (hc : ∀ a x, ((![lanes, broadcast S16 c, k0_pay54 v11] : Fin 3 → IVec S16 32) a x).toNat < S16x4x128.size a) (j : Fin 16)
    (r : Fin 8) (hr : r.val = c.toNat + 1) :
    loadIdx ((mT.access (.whole S16x4x128)).read (Elt F) (stagedT d L (laneOf h) ft)) ![lanes, broadcast S16 c, k0_pay54 v11] hc (ix1 j)
      = want fs ft (v7 (ix1 j)) (v9 (ix1 j)) (v11 (ix1 j)) r := by
  obtain ⟨hb, hl, hx⟩ := h (ix1 j)
  have hi : idxAt ![lanes, broadcast S16 c, k0_pay54 v11] hc (ix1 j)
      = (ix3 j ⟨c.toNat, hc4⟩ ⟨(v11 (ix1 j) : BitVec 32).toNat % 128, Nat.mod_lt _ (by decide)⟩ : S16x4x128.Idx) := by
    funext a; apply Fin.ext
    match a with
    | 0 => exact lanes_toNat j
    | 1 => rfl
    | 2 => exact anchorRest_toNat _ _
  refine (read_mT d L _ _).trans ?_
  rw [hi]
  refine (winT_read d L ft (laneOf h j) _ _ (ix3 ⟨(v7 (ix1 j) : BitVec 32).toNat % 32, Nat.mod_lt _ (by decide)⟩ ⟨(r.val - 1) % 4, Nat.mod_lt _ (by decide)⟩
      ⟨(v11 (ix1 j) : BitVec 32).toNat % 20000, Nat.mod_lt _ (by decide)⟩) ?_ ?_ ?_).trans ?_
  · show (laneWord v7 j).toNat = (v7 (ix1 j) : BitVec 32).toNat % 32
    rw [laneWord_eq]; omega
  · show c.toNat = (r.val - 1) % 4
    omega
  · show (laneWord (k0_pay3 v11) j).toNat + (v11 (ix1 j) : BitVec 32).toNat % 128 = (v11 (ix1 j) : BitVec 32).toNat % 20000
    rw [laneWord_eq, anchorBase_toNat]; omega
  · unfold want
    rw [if_neg (by rintro rfl; simp at hr), if_neg (by rintro rfl; simp at hr; omega), if_neg (by rintro rfl; simp at hr; omega)]

end Cert.Proof.Run

end
-- ==== Proof.Trip.lean ====
/-
  One trip of a tile's loop: sixteen triples read, their windows copied and waited for, sixteen columns of the tile's
  block written.
-/
module

public import proofs.«01_k».proof.Proof.Steps
public import proofs.«01_k».proof.Proof.Gather

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending shareTok shareDrop)

variable {F : FTy → Type} [FloatOps F]

local notation "𝕄" => MM F

variable (d : Dev nD) (L : grid0.Coords) (qs qt : PosShare TreeShare)
  (fs : Buf (Elt F) (aS.view.loc (thr d L))) (ft : Buf (Elt F) (aT.view.loc (thr d L)))
  (fb : Buf (Elt F) (sB.view.loc (thr d L))) (fl : Buf (Elt F) (sL.view.loc (thr d L))) (fx : Buf (Elt F) (sX.view.loc (thr d L)))
  (O : CellTallies nD τ sig (HIx 1)) (W : Waits sig (HIx 1))

/-- Trip `t` of the loop, at the tile's arrays. -/
abbrev tripAt (t : Fin k0_t1_loop.trips) : Prog (TpuEff nD τ sig (Elt F) Λ₀ (thr d L).2) Unit :=
  k0_t1_body (F := F) L aB (Memref.isWhole_whole _) aL (Memref.isWhole_whole _) aX (Memref.isWhole_whole _) aT (Memref.isWhole_whole _) aS (Memref.isWhole_whole _) aO (Memref.isWhole_whole _)
    sB (Memref.isWhole_whole _) sL (Memref.isWhole_whole _) sX (Memref.isWhole_whole _) mS (Memref.isWhole_whole _) mS' (Memref.isWhole_whole _) mT (Memref.isWhole_whole _) mT' (Memref.isWhole_whole _) sO (Memref.isWhole_whole _)
    cc0_scratch8 cc0_scratch9 cc0_scoped0 cc0_scoped1 cc0_scoped2 cc0_scoped3 lanes t ()

/-- What the tile holds between trips: its triples, read shares of the tables, the staging arrays at any contents, its
    block with the trips' columns done, both counters at zero. -/
def between (t : ℕ) : sProp 𝕄 :=
  iprop((sB.view.loc (thr d L) ↦{fullShare} fb) ∗ (sL.view.loc (thr d L) ↦{fullShare} fl) ∗ (sX.view.loc (thr d L) ↦{fullShare} fx)
    ∗ (aS.view.loc (thr d L) ↦{qs} fs) ∗ (aT.view.loc (thr d L) ↦{qt} ft)
    ∗ (∃ g, mS.view.loc (thr d L) ↦{fullShare} g) ∗ (∃ g, mT.view.loc (thr d L) ↦{fullShare} g)
    ∗ (∃ o : Buf (Elt F) (sO.view.loc (thr d L)), ⌜Done fs ft fb fl fx t o⌝ ∗ sO.view.loc (thr d L) ↦{fullShare} o)
    ∗ semVal (thr d L, .dma semS) 0 ∗ semVal (thr d L, .dma semT) 0 ∗ debt d L O W)

/-- The tile's triples index the tables. -/
def TripleRange (fb fl fx : S512.Idx → BitVec 32) : Prop := ∀ j : S512.Idx, (fb j).toNat < 32 ∧ (fl j).toNat < 91 ∧ (fx j).toNat < 19968

/-- The last lane's check: its windows are read at three places only. -/
theorem lane_last {v7 v9 v11 : Vec F S16 .i32} (h : InRange v7 v9 v11) :
    k0_chk32 (laneWord v7 15) (laneWord (k0_pay2 v7 v9) 15) (laneWord (k0_pay3 v11) 15) :=
  have hk := lane_ok h 15
  ⟨hk.1, hk.2.1, hk.2.2.1, hk.2.2.2.1⟩

/-- The indexed load of the scores: what the program goes on with are the tables' scores at the sixteen triples. -/
theorem wp_pickS {Q : Unit → sProp 𝕄} {v7 v9 v11 : Vec F S16 .i32} (h : InRange v7 v9 v11)
    {dc : Decidable (k0_chk33 lanes (k0_pay54 v11) (k0_pay55 (k0_pay1 v7 v9)))}
    {hc : PLift (k0_chk33 lanes (k0_pay54 v11) (k0_pay55 (k0_pay1 v7 v9))) →
      ∀ a x, ((![lanes, k0_pay55 (k0_pay1 v7 v9), k0_pay54 v11] : Fin 3 → IVec S16 32) a x).toNat < S16x8x128.size a}
    {hl : mS.view.Loads} {k : Vec F S16 .f32 → Prog (TpuEff nD τ sig (Elt F) Λ₀ (thr d L).2) Unit} :
    (mS.view.loc (thr d L) ↦{fullShare} stagedS d L (laneOf h) fs)
      ⊢ iprop((∀ v : Vec F S16 .f32, iprop(⌜∀ j, v (ix1 j) = want fs ft (v7 (ix1 j)) (v9 (ix1 j)) (v11 (ix1 j)) 5⌝
          -∗ (mS.view.loc (thr d L) ↦{fullShare} stagedS d L (laneOf h) fs) -∗ wp frame (wpE (defs₀ (F := F)) 𝒱₀ (thr d L) none) Set.univ (k v) Q))
        -∗ wp frame (wpE (defs₀ (F := F)) 𝒱₀ (thr d L) none) Set.univ
            (.op (.assume (k0_chk33 lanes (k0_pay54 v11) (k0_pay55 (k0_pay1 v7 v9))) dc) fun x =>
              SparseCore.vectorLoadIdx mS ![lanes, k0_pay55 (k0_pay1 v7 v9), k0_pay54 v11] (hc x) hl >>= k) Q) := by
  iintro Hm Hk
  iapply (wp_assume 𝒱₀ (thr d L) none Set.univ check_score)
  iapply (SparseCore.wp_vectorLoadIdx 𝒱₀ (thr d L) none Set.univ (base := mS) (S := Finset.univ) (Finset.subset_univ _)) $$ Hm
  iintro Hm
  have hg := fun j => gather_score h d L fs ft (hc ⟨check_score⟩) j
  iapply Hk $$ %_ %hg Hm

/-- The indexed load of box number `c`. -/
theorem wp_pickT {Q : Unit → sProp 𝕄} {v7 v9 v11 : Vec F S16 .i32} (h : InRange v7 v9 v11) (c : BitVec 32) (hc4 : c.toNat < 4) (r : Fin 8) (hr : r.val = c.toNat + 1)
    {dc : Decidable (k0_chk34 lanes (k0_pay54 v11) (broadcast S16 c))}
    {hc : PLift (k0_chk34 lanes (k0_pay54 v11) (broadcast S16 c)) →
      ∀ a x, ((![lanes, broadcast S16 c, k0_pay54 v11] : Fin 3 → IVec S16 32) a x).toNat < S16x4x128.size a}
    {hl : mT.view.Loads} {k : Vec F S16 .f32 → Prog (TpuEff nD τ sig (Elt F) Λ₀ (thr d L).2) Unit} :
    (mT.view.loc (thr d L) ↦{fullShare} stagedT d L (laneOf h) ft)
      ⊢ iprop((∀ v : Vec F S16 .f32, iprop(⌜∀ j, v (ix1 j) = want fs ft (v7 (ix1 j)) (v9 (ix1 j)) (v11 (ix1 j)) r⌝
          -∗ (mT.view.loc (thr d L) ↦{fullShare} stagedT d L (laneOf h) ft) -∗ wp frame (wpE (defs₀ (F := F)) 𝒱₀ (thr d L) none) Set.univ (k v) Q))
        -∗ wp frame (wpE (defs₀ (F := F)) 𝒱₀ (thr d L) none) Set.univ
            (.op (.assume (k0_chk34 lanes (k0_pay54 v11) (broadcast S16 c)) dc) fun x =>
              SparseCore.vectorLoadIdx mT ![lanes, broadcast S16 c, k0_pay54 v11] (hc x) hl >>= k) Q) := by
  iintro Hm Hk
  iapply (wp_assume 𝒱₀ (thr d L) none Set.univ (check_box c hc4))
  iapply (SparseCore.wp_vectorLoadIdx 𝒱₀ (thr d L) none Set.univ (base := mT) (S := Finset.univ) (Finset.subset_univ _)) $$ Hm
  iintro Hm
  have hg := fun j => gather_box h d L fs ft c hc4 (hc ⟨check_box c hc4⟩) j r hr
  iapply Hk $$ %_ %hg Hm

set_option maxHeartbeats 8000000 in
theorem trip (hr : TripleRange fb fl fx) (t : Fin k0_t1_loop.trips) :
    iprop(Transfers.MayWaits (thr d L) (none : HIx 1) O ∗ between d L qs qt fs ft fb fl fx O W t.val)
      ⊢ wp frame (wpE (defs₀ (F := F)) 𝒱₀ (thr d L) none) Set.univ (tripAt (F := F) d L t) fun _ => between d L qs qt fs ft fb fl fx O W (t.val + 1) := by
  unfold tripAt k0_t1_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel
  simp only [Prog.lift, Prog.bind_op, Prog.bind_ret, Prog.bind_assoc, Prog.pure_eq_ret]
  conv_lhs => unfold between
  iintro ⟨#Hmw, HB, HL, HX, HS, HT, ⟨%gs, HmS⟩, ⟨%gt, HmT⟩, ⟨%o, %ho, HO⟩, HvS, HvT, Hd⟩
  iapply (wp_triples d L t (m := sB) (f := fb) fb fun j => congrArg fb (load_emb t j)) $$ HB
  iintro %v7 %hb HB
  iapply (wp_triples d L t (m := sL) (f := fl) fl fun j => congrArg fl (load_emb t j)) $$ HL
  iintro %v9 %hl HL
  iapply (wp_triples d L t (m := sX) (f := fx) fx fun j => congrArg fx (load_emb t j)) $$ HX
  iintro %v11 %hx HX
  have h : InRange v7 v9 v11 := by
    intro j
    have hj := hr (ix1 (col t (j 0)))
    rw [eq_ix1 j]
    exact ⟨(congrArg BitVec.toNat (hb (j 0))).trans_lt hj.1, (congrArg BitVec.toNat (hl (j 0))).trans_lt hj.2.1, (congrArg BitVec.toNat (hx (j 0))).trans_lt hj.2.2⟩
  imod (openS d L (laneOf h) qs fs gs) $$ [HmS HS HvS] with ⟨HI, HaS⟩
  · isplitl [HmS]; · iexact HmS
    isplitl [HS] <;> iassumption
  imod (openT d L (laneOf h) qt ft gt) $$ [HmT HT HvT] with ⟨HI', HaT⟩
  · isplitl [HmT]; · iexact HmT
    isplitl [HT] <;> iassumption
  ihave HI := (show iprop(issuedS d L (laneOf h) qs fs gs 0 ∗ issuedT d L (laneOf h) qt ft gt 0) ⊢ issued d L (laneOf h) qs qt fs ft gs gt 0 from BI.Entails.refl _) $$ [HI HI']
  · isplitl [HI] <;> iassumption
  iapply (lane d L (laneOf h) qs qt fs ft gs gt 0 (by decide) (lane_row h 0) (lane_ok h 0) rfl rfl rfl rfl) $$ HI
  iintro HI
  iapply (lane d L (laneOf h) qs qt fs ft gs gt 1 (by decide) (lane_row h 1) (lane_ok h 1) rfl rfl rfl rfl) $$ HI
  iintro HI
  iapply (lane d L (laneOf h) qs qt fs ft gs gt 2 (by decide) (lane_row h 2) (lane_ok h 2) rfl rfl rfl rfl) $$ HI
  iintro HI
  iapply (lane d L (laneOf h) qs qt fs ft gs gt 3 (by decide) (lane_row h 3) (lane_ok h 3) rfl rfl rfl rfl) $$ HI
  iintro HI
  iapply (lane d L (laneOf h) qs qt fs ft gs gt 4 (by decide) (lane_row h 4) (lane_ok h 4) rfl rfl rfl rfl) $$ HI
  iintro HI
  iapply (lane d L (laneOf h) qs qt fs ft gs gt 5 (by decide) (lane_row h 5) (lane_ok h 5) rfl rfl rfl rfl) $$ HI
  iintro HI
  iapply (lane d L (laneOf h) qs qt fs ft gs gt 6 (by decide) (lane_row h 6) (lane_ok h 6) rfl rfl rfl rfl) $$ HI
  iintro HI
  iapply (lane d L (laneOf h) qs qt fs ft gs gt 7 (by decide) (lane_row h 7) (lane_ok h 7) rfl rfl rfl rfl) $$ HI
  iintro HI
  iapply (lane d L (laneOf h) qs qt fs ft gs gt 8 (by decide) (lane_row h 8) (lane_ok h 8) rfl rfl rfl rfl) $$ HI
  iintro HI
  iapply (lane d L (laneOf h) qs qt fs ft gs gt 9 (by decide) (lane_row h 9) (lane_ok h 9) rfl rfl rfl rfl) $$ HI
  iintro HI
  iapply (lane d L (laneOf h) qs qt fs ft gs gt 10 (by decide) (lane_row h 10) (lane_ok h 10) rfl rfl rfl rfl) $$ HI
  iintro HI
  iapply (lane d L (laneOf h) qs qt fs ft gs gt 11 (by decide) (lane_row h 11) (lane_ok h 11) rfl rfl rfl rfl) $$ HI
  iintro HI
  iapply (lane d L (laneOf h) qs qt fs ft gs gt 12 (by decide) (lane_row h 12) (lane_ok h 12) rfl rfl rfl rfl) $$ HI
  iintro HI
  iapply (lane d L (laneOf h) qs qt fs ft gs gt 13 (by decide) (lane_row h 13) (lane_ok h 13) rfl rfl rfl rfl) $$ HI
  iintro HI
  iapply (lane d L (laneOf h) qs qt fs ft gs gt 14 (by decide) (lane_row h 14) (lane_ok h 14) rfl rfl rfl rfl) $$ HI
  iintro HI
  iapply (lane d L (laneOf h) qs qt fs ft gs gt 15 (by decide) (lane_row h 15) (lane_last h) rfl rfl rfl rfl) $$ HI
  iintro HI
  iapply (wp_putRow d L 0 t (k0_off35_eq t)) $$ HO
  iintro HO
  iapply (wp_putRow d L 6 t (k0_off36_eq t)) $$ HO
  iintro HO
  ihave HD := (issued_drain d L (laneOf h) qs qt fs ft gs gt O W) $$ [HI Hd]
  · isplitl [HI] <;> iassumption
  iapply (settle d L (laneOf h) qs qt fs ft O W 0 (by decide) 0 rfl rfl) $$ [HD]
  · isplitl [HD] <;> iassumption
  iintro HD
  iapply (settle d L (laneOf h) qs qt fs ft O W 1 (by decide) 1 rfl rfl) $$ [HD]
  · isplitl [HD] <;> iassumption
  iintro HD
  iapply (settle d L (laneOf h) qs qt fs ft O W 2 (by decide) 2 rfl rfl) $$ [HD]
  · isplitl [HD] <;> iassumption
  iintro HD
  iapply (settle d L (laneOf h) qs qt fs ft O W 3 (by decide) 3 rfl rfl) $$ [HD]
  · isplitl [HD] <;> iassumption
  iintro HD
  iapply (settle d L (laneOf h) qs qt fs ft O W 4 (by decide) 4 rfl rfl) $$ [HD]
  · isplitl [HD] <;> iassumption
  iintro HD
  iapply (settle d L (laneOf h) qs qt fs ft O W 5 (by decide) 5 rfl rfl) $$ [HD]
  · isplitl [HD] <;> iassumption
  iintro HD
  iapply (settle d L (laneOf h) qs qt fs ft O W 6 (by decide) 6 rfl rfl) $$ [HD]
  · isplitl [HD] <;> iassumption
  iintro HD
  iapply (settle d L (laneOf h) qs qt fs ft O W 7 (by decide) 7 rfl rfl) $$ [HD]
  · isplitl [HD] <;> iassumption
  iintro HD
  iapply (settle d L (laneOf h) qs qt fs ft O W 8 (by decide) 8 rfl rfl) $$ [HD]
  · isplitl [HD] <;> iassumption
  iintro HD
  iapply (settle d L (laneOf h) qs qt fs ft O W 9 (by decide) 9 rfl rfl) $$ [HD]
  · isplitl [HD] <;> iassumption
  iintro HD
  iapply (settle d L (laneOf h) qs qt fs ft O W 10 (by decide) 10 rfl rfl) $$ [HD]
  · isplitl [HD] <;> iassumption
  iintro HD
  iapply (settle d L (laneOf h) qs qt fs ft O W 11 (by decide) 11 rfl rfl) $$ [HD]
  · isplitl [HD] <;> iassumption
  iintro HD
  iapply (settle d L (laneOf h) qs qt fs ft O W 12 (by decide) 12 rfl rfl) $$ [HD]
  · isplitl [HD] <;> iassumption
  iintro HD
  iapply (settle d L (laneOf h) qs qt fs ft O W 13 (by decide) 13 rfl rfl) $$ [HD]
  · isplitl [HD] <;> iassumption
  iintro HD
  iapply (settle d L (laneOf h) qs qt fs ft O W 14 (by decide) 14 rfl rfl) $$ [HD]
  · isplitl [HD] <;> iassumption
  iintro HD
  iapply (settle_last d L (laneOf h) qs qt fs ft O W 15 rfl rfl) $$ [HD HaS HaT]
  · isplitl [HD]; · iexact HD
    isplitr; · iexact Hmw
    isplitl [HaS] <;> iassumption
  iintro ⟨HmS, HmT, HS, HT, HvS, HvT, Hd⟩
  iapply (wp_pickS d L fs ft h) $$ HmS
  iintro %g5 %h5 HmS
  iapply (wp_putRow d L 5 t (k0_off68_eq t)) $$ HO
  iintro HO
  iapply (wp_pickT d L fs ft h 0#32 (by decide) 1 rfl) $$ HmT
  iintro %g1 %h1 HmT
  iapply (wp_putRow d L 1 t (k0_off69_eq t)) $$ HO
  iintro HO
  iapply (wp_pickT d L fs ft h 1#32 (by decide) 2 rfl) $$ HmT
  iintro %g2 %h2 HmT
  iapply (wp_putRow d L 2 t (k0_off70_eq t)) $$ HO
  iintro HO
  iapply (wp_pickT d L fs ft h 2#32 (by decide) 3 rfl) $$ HmT
  iintro %g3 %h3 HmT
  iapply (wp_putRow d L 3 t (k0_off71_eq t)) $$ HO
  iintro HO
  iapply (wp_pickT d L fs ft h 3#32 (by decide) 4 rfl) $$ HmT
  iintro %g4 %h4 HmT
  iapply (wp_putRow d L 4 t (k0_off72_eq t)) $$ HO
  iintro HO
  have hv : Done fs ft fb fl fx (t.val + 1) (putRows t ![k0_pay52 v7, g1, g2, g3, g4, g5, k0_pay53 v9, k0_pay53 v9] o) := by
    refine done_step t ho _ fun r hr j => ?_
    rw [← hb j, ← hl j, ← hx j]
    fin_cases r
    · rfl
    · exact h1 j
    · exact h2 j
    · exact h3 j
    · exact h4 j
    · exact h5 j
    · rfl
    · exact absurd rfl hr
  rw [wp_ret]
  imodintro
  unfold between
  isplitl [HB]; · iexact HB
  isplitl [HL]; · iexact HL
  isplitl [HX]; · iexact HX
  isplitl [HS]; · iexact HS
  isplitl [HT]; · iexact HT
  isplitl [HmS]; · iexists _; iexact HmS
  isplitl [HmT]; · iexists _; iexact HmT
  isplitl [HO]
  · iexists _
    isplitr
    · ipureintro; exact hv
    · iexact HO
  isplitl [HvS]; · iexact HvS
  isplitl [HvT] <;> iassumption

end Cert.Proof.Run

end
-- ==== Proof.Tile.lean ====
/-
  A tile's task: its 512 triples copied in, thirty-two trips, its 512 columns of the result copied out.
-/
module

public import proofs.«01_k».proof.Proof.Trip

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending shareTok shareDrop)

variable {F : FTy → Type} [FloatOps F]

local notation "𝕄" => MM F

/-! ## The kernel's operands -/

/-- What the kernel reads: the three index columns, the score table and the box table. -/
structure Ins (F : FTy → Type) where
  b : S16384.Idx → BitVec 32
  l : S16384.Idx → BitVec 32
  x : S16384.Idx → BitVec 32
  s : S2912x20000.Idx → F .f32
  t : S32x4x20000.Idx → F .f32

/-- Every triple indexes the tables, at a place whose window lies inside them. -/
def Ins.Ok (A : Ins F) : Prop := ∀ n, (A.b n).toNat < 32 ∧ (A.l n).toNat < 91 ∧ (A.x n).toNat < 19968

/-- What is wanted of the result at row `r` and column `n`. -/
def Ins.want (A : Ins F) (r : Fin 8) (n : Fin 16384) : F .f32 := Run.want A.s A.t (A.b (ix1 n)) (A.l (ix1 n)) (A.x (ix1 n)) r

/-- The arrays, as locations of device `d`. -/
abbrev bLoc (d : Dev nD) : Loc nD τ sig := (SparseCore.T d).loc main_v2
abbrev lLoc (d : Dev nD) : Loc nD τ sig := (SparseCore.T d).loc main_v4
abbrev xLoc (d : Dev nD) : Loc nD τ sig := (SparseCore.T d).loc main_v6
abbrev sLoc (d : Dev nD) : Loc nD τ sig := (SparseCore.T d).loc main_v8
abbrev tLoc (d : Dev nD) : Loc nD τ sig := (SparseCore.T d).loc main_v9
abbrev oLoc (d : Dev nD) : Loc nD τ sig := (SparseCore.T d).loc main_v10

/-- A share of the five arrays the kernel reads. -/
def reads (d : Dev nD) (A : Ins F) (q : PosShare TreeShare) : sProp 𝕄 :=
  iprop((bLoc d ↦{q} (A.b : Buf (Elt F) (bLoc d))) ∗ (lLoc d ↦{q} (A.l : Buf (Elt F) (lLoc d))) ∗ (xLoc d ↦{q} (A.x : Buf (Elt F) (xLoc d)))
    ∗ (sLoc d ↦{q} (A.s : Buf (Elt F) (sLoc d))) ∗ (tLoc d ↦{q} (A.t : Buf (Elt F) (tLoc d))))

/-! ## A tile's columns -/

variable (d : Dev nD) (L : grid0.Coords)

/-- The tile's 512 columns of the result. -/
abbrev outBlk : Memref sig .scVector .hbm S8x512 .f32 := aO.slice (Rect.unit (s := S8x16384) (k0_off73 L) S8x512.size (k0_off73_inb L)) (fun _ => rfl)

/-- The tile's 512 words of an index column. -/
abbrev inBlk (a : Memref sig .scVector .hbm S16384 .i32) : Memref sig .scVector .hbm S512 .i32 :=
  a.slice (Rect.unit (s := S16384) (k0_off1 L) S512.size (k0_off1_inb L)) (fun _ => rfl)

/-- The first of the tile's columns, and the tile's column `j`. -/
theorem base_lt (j : Fin 512) : 1024 * (L 1).val + 512 * (L 0).val + j.val < 16384 := by
  have h0 : (L 0).val < 2 := (L 0).isLt
  have h1 : (L 1).val < 16 := (L 1).isLt
  omega
def colOf (j : Fin 512) : Fin 16384 := ⟨1024 * (L 1).val + 512 * (L 0).val + j.val, base_lt L j⟩

theorem inBlk_emb (j : Fin 512) : (Rect.unit (s := S16384) (k0_off1 L) S512.size (k0_off1_inb L)).emb (ix1 j) = (ix1 (colOf L j) : S16384.Idx) := by
  funext a; apply Fin.ext
  obtain rfl : a = 0 := Subsingleton.elim _ _
  show k0_off1 L 0 + 1 * j.val = 1024 * (L 1).val + 512 * (L 0).val + j.val
  rw [k0_off1_eq]; show 1024 * (L 1).val + 512 * (L 0).val + 1 * j.val = _; omega

theorem outBlk_emb (r : Fin 8) (j : Fin 512) : (outBlk L).view.emb (ix2 r j) = (ix2 r (colOf L j) : S8x16384.Idx) := by
  funext a; apply Fin.ext
  match a with
  | 0 =>
    show k0_off73 L 0 + 1 * r.val = r.val
    rw [k0_off73_eq]; show 0 + 1 * r.val = r.val; omega
  | 1 =>
    show k0_off73 L 1 + 1 * j.val = 1024 * (L 1).val + 512 * (L 0).val + j.val
    rw [k0_off73_eq]; show 1024 * (L 1).val + 512 * (L 0).val + 1 * j.val = _; omega

/-- The tile's columns hold what is wanted, in every row the host keeps. -/
def Filled (A : Ins F) (o : S8x16384.Idx → F .f32) : Prop := ∀ (r : Fin 8) (j : Fin 512), r ≠ 7 → o (ix2 r (colOf L j)) = A.want r (colOf L j)

/-- What the copy out leaves. -/
theorem filled_write (A : Ins F) {fb fl fx : S512.Idx → BitVec 32} (hb : ∀ j, fb (ix1 j) = A.b (ix1 (colOf L j))) (hl : ∀ j, fl (ix1 j) = A.l (ix1 (colOf L j)))
    (hx : ∀ j, fx (ix1 j) = A.x (ix1 (colOf L j))) {o : S8x512.Idx → F .f32} (ho : Done A.s A.t fb fl fx 32 o) (f : Buf (Elt F) ((outBlk L).view.loc (thr d L)))
    (v : S8x512.Idx → F .f32) (hv : ∀ i, v i = o i) :
    Filled L A ((outBlk L).view.writes (Elt F) f [⟨Rect.whole S8x512, v⟩]) := by
  intro r j hr
  have h := ho r j hr (by have := j.isLt; omega)
  rw [hb, hl, hx, ← hv] at h
  refine Eq.trans ?_ h
  have he : ((outBlk L).view.slice (Rect.whole S8x512)).emb (ix2 r j) = (ix2 r (colOf L j) : S8x16384.Idx) := by
    rw [← outBlk_emb]
    refine congrArg (outBlk L).view.emb (funext fun a => Fin.ext ?_)
    show 0 + 1 * ((ix2 r j : S8x512.Idx) a).val = _
    omega
  rw [← he]
  exact View.write_emb_of_mem (Val := Elt F) _ _ (Finset.mem_univ _)

/-- The tile's words of an index column. -/
def mine (a : S16384.Idx → BitVec 32) : S512.Idx → BitVec 32 := fun i => a (ix1 (colOf L (i 0)))

/-- What the copies in leave. -/
theorem copied {m : Memref sig .scVector .vmem S512 .i32} (v w : S512.Idx → Elt F .i32) (f g : Buf (Elt F) (m.view.loc (thr d L)))
    (hw : m.view.write (Elt F) f w Finset.univ = g) (hv : ∀ i, v i = w i) :
    (m.view.loc (thr d L) ↦{fullShare} m.view.write (Elt F) f v Finset.univ) ⊢ (m.view.loc (thr d L) ↦{fullShare} g : sProp 𝕄) := by
  obtain rfl : v = w := funext hv
  rw [hw]

theorem read_mine (a : S16384.Idx → BitVec 32) (i : S512.Idx) : a ((Rect.unit (s := S16384) (k0_off1 L) S512.size (k0_off1_inb L)).emb i) = mine L a i := by
  rw [eq_ix1 i]
  exact congrArg a (inBlk_emb L (i 0))

/-! ## The tile's own semaphores and scratch arrays -/

def mySems : Finset (SemLoc sig) := {.dma semS, .dma semT, .dma cc0_scoped0.sem, .dma cc0_scoped1.sem, .dma cc0_scoped2.sem, .dma cc0_scoped3.sem}
def myRefs : Finset (Ref sig .scVector) := {cc0_scratch0, cc0_scratch1, cc0_scratch2, cc0_scratch3, cc0_scratch5, cc0_scratch7}

def cellOf : SemLoc sig ↪ GSem nD τ sig := ⟨fun sm => (thr d L, sm), fun _ _ h => (Prod.mk.inj h).2⟩
def refOf (L : grid0.Coords) : Ref sig .scVector ↪ DevRef τ sig := ⟨(Proc.scVector (cV L) (jV L)).devRef, Proc.devRef_injective _⟩

theorem mySems_own : (mySems.map (cellOf d L)) ⊆ SparseCore.Cfg.ownCells (thr d L) := by
  intro g hg
  obtain ⟨sm, hs, rfl⟩ := Finset.mem_map.mp hg
  refine SparseCore.Cfg.mem_ownCells.mpr ⟨rfl, ?_⟩
  show sm.isScoped .scVector = true
  clear hg; revert sm; decide

theorem myRefs_own : (myRefs.map (refOf L)) ⊆ SparseCore.Cfg.ownRefs (τ := τ) (thr d L).2 := by
  intro g hg
  obtain ⟨b, hb, rfl⟩ := Finset.mem_map.mp hg
  refine SparseCore.Cfg.mem_ownRefs_of_owner ?_
  simp only [myRefs, Finset.mem_insert, Finset.mem_singleton] at hb
  rcases hb with rfl | rfl | rfl | rfl | rfl | rfl <;> rfl

theorem own_sems : (SparseCore.Cfg.ownSems0 (thr d L) : sProp 𝕄)
    = iprop((semVal (thr d L, .dma semS) 0 ∗ semVal (thr d L, .dma semT) 0 ∗ semVal (thr d L, .dma cc0_scoped0.sem) 0 ∗ semVal (thr d L, .dma cc0_scoped1.sem) 0
        ∗ semVal (thr d L, .dma cc0_scoped2.sem) 0 ∗ semVal (thr d L, .dma cc0_scoped3.sem) 0)
      ∗ bigSep (SparseCore.Cfg.ownCells (thr d L) \ mySems.map (cellOf d L)) fun g => semVal g 0) := by
  unfold SparseCore.Cfg.ownSems0
  rw [SparseCore.bigSep_sdiff_split' (mySems_own d L)]
  congr 1
  rw [bigSep_map]
  unfold mySems
  rw [SparseCore.bigSep_insert' (by decide), SparseCore.bigSep_insert' (by decide), SparseCore.bigSep_insert' (by decide), SparseCore.bigSep_insert' (by decide),
    SparseCore.bigSep_insert' (by decide), bigSep_singleton]
  rfl

theorem own_bufs : (SparseCore.Cfg.ownBufs (thr d L) : sProp 𝕄)
    = iprop(((∃ f, (thr d L).loc cc0_scratch0 ↦{fullShare} f) ∗ (∃ f, (thr d L).loc cc0_scratch1 ↦{fullShare} f) ∗ (∃ f, (thr d L).loc cc0_scratch2 ↦{fullShare} f)
        ∗ (∃ f, (thr d L).loc cc0_scratch3 ↦{fullShare} f) ∗ (∃ f, (thr d L).loc cc0_scratch5 ↦{fullShare} f) ∗ (∃ f, (thr d L).loc cc0_scratch7 ↦{fullShare} f))
      ∗ bigSep (SparseCore.Cfg.ownRefs (τ := τ) (thr d L).2 \ myRefs.map (refOf L)) fun b => iprop(∃ f, ((d, b) : Loc nD τ sig) ↦{fullShare} f)) := by
  unfold SparseCore.Cfg.ownBufs
  rw [SparseCore.bigSep_sdiff_split' (myRefs_own d L)]
  congr 1
  rw [bigSep_map]
  unfold myRefs
  rw [SparseCore.bigSep_insert' (by decide), SparseCore.bigSep_insert' (by decide), SparseCore.bigSep_insert' (by decide), SparseCore.bigSep_insert' (by decide),
    SparseCore.bigSep_insert' (by decide), bigSep_singleton]
  rfl

/-! ## The task -/

/-- The loop's invariant: what the tile holds between trips, and that it may wait. -/
def inv (qs : PosShare TreeShare) (A : Ins F) (fb fl fx : S512.Idx → BitVec 32) (O : CellTallies nD τ sig (HIx 1)) (W : Waits sig (HIx 1)) (t : ℕ) (_ : PUnit) : sProp 𝕄 :=
  iprop(Transfers.MayWaits (thr d L) (none : HIx 1) O ∗ between d L qs qs A.s A.t fb fl fx O W t)

set_option maxHeartbeats 2000000 in
theorem tile_body (A : Ins F) (hA : A.Ok) (q : PosShare TreeShare) (O : CellTallies nD τ sig (HIx 1)) (W : Waits sig (HIx 1)) (hO : ∀ g, O g none = 0) :
    iprop(levAts (K (F := F)).L (K (F := F)).lev ∗ emp ∗ (reads d A q ∗ ∃ f, oLoc d ↦[(outBlk L).view.set]{fullShare} f)
        ∗ scopedBufs (thr d L) ∗ scopedSems0 (thr d L) ∗ owes (thr d L) O W)
      ⊢ wp frame (wpE (defs₀ (F := F)) 𝒱₀ (thr d L) none) Set.univ
          (cc0_body (F := F) L aB (Memref.isWhole_whole _) aL (Memref.isWhole_whole _) aX (Memref.isWhole_whole _) aT (Memref.isWhole_whole _) aS (Memref.isWhole_whole _) aO (Memref.isWhole_whole _)
            sB (Memref.isWhole_whole _) sL (Memref.isWhole_whole _) sX (Memref.isWhole_whole _) mS (Memref.isWhole_whole _) mS' (Memref.isWhole_whole _) mT (Memref.isWhole_whole _) mT' (Memref.isWhole_whole _) sO (Memref.isWhole_whole _)
            cc0_scratch8 cc0_scratch9 cc0_scoped0 cc0_scoped1 cc0_scoped2 cc0_scoped3)
          fun _ => iprop((∃ f : Buf (Elt F) (oLoc d), ⌜Filled L A f⌝ ∗ oLoc d ↦[(outBlk L).view.set]{fullShare} f) ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  rw [(K (F := F)).scopedBufs_V launchFacts d (cV L) (jV L), SparseCore.Cfg.scopedSems0_V (Val := Elt F) d (cV L) (jV L), own_sems, own_bufs]
  unfold reads
  iintro ⟨#Hlv, -, ⟨⟨Hb, Hl, Hx, HS, HT⟩, %fo, Ho⟩, ⟨⟨⟨%f0, H0⟩, ⟨%f1, H1⟩, ⟨%f2, H2⟩, ⟨%f3, H3⟩, ⟨%f5, H5⟩, ⟨%f7, H7⟩⟩, Hbufs⟩, ⟨⟨HvS, HvT, Hv0, Hv1, Hv2, Hv3⟩, Hsems⟩, HO⟩
  ihave Hmw := ((K (F := F)).mayWaits_none (thr := thr d L) hO) $$ Hlv
  ihave Hb := (show (bLoc d ↦{q} (A.b : Buf (Elt F) (bLoc d)) : sProp 𝕄) ⊢ (aB.view.loc (thr d L) ↦{q} (A.b : Buf (Elt F) (aB.view.loc (thr d L))) : sProp 𝕄) from BI.Entails.refl _) $$ Hb
  ihave Hl := (show (lLoc d ↦{q} (A.l : Buf (Elt F) (lLoc d)) : sProp 𝕄) ⊢ (aL.view.loc (thr d L) ↦{q} (A.l : Buf (Elt F) (aL.view.loc (thr d L))) : sProp 𝕄) from BI.Entails.refl _) $$ Hl
  ihave Hx := (show (xLoc d ↦{q} (A.x : Buf (Elt F) (xLoc d)) : sProp 𝕄) ⊢ (aX.view.loc (thr d L) ↦{q} (A.x : Buf (Elt F) (aX.view.loc (thr d L))) : sProp 𝕄) from BI.Entails.refl _) $$ Hx
  ihave H0 := (show ((thr d L).loc cc0_scratch0 ↦{fullShare} f0 : sProp 𝕄) ⊢ (sB.view.loc (thr d L) ↦{fullShare} (f0 : Buf (Elt F) (sB.view.loc (thr d L))) : sProp 𝕄) from BI.Entails.refl _) $$ H0
  ihave H1 := (show ((thr d L).loc cc0_scratch1 ↦{fullShare} f1 : sProp 𝕄) ⊢ (sL.view.loc (thr d L) ↦{fullShare} (f1 : Buf (Elt F) (sL.view.loc (thr d L))) : sProp 𝕄) from BI.Entails.refl _) $$ H1
  ihave H2 := (show ((thr d L).loc cc0_scratch2 ↦{fullShare} f2 : sProp 𝕄) ⊢ (sX.view.loc (thr d L) ↦{fullShare} (f2 : Buf (Elt F) (sX.view.loc (thr d L))) : sProp 𝕄) from BI.Entails.refl _) $$ H2
  sl_exec
  ihave H0 := (copied d L (m := sB) (tile_body.sl.dma0 L A) (mine L A.b) f0 (mine L A.b) (View.write_whole_univ _ _ _) (read_mine L A.b)) $$ H0
  ihave H1 := (copied d L (m := sL) (tile_body.sl.dma0_1 L A) (mine L A.l) f1 (mine L A.l) (View.write_whole_univ _ _ _) (read_mine L A.l)) $$ H1
  ihave H2 := (copied d L (m := sX) (tile_body.sl.dma0_2 L A) (mine L A.x) f2 (mine L A.x) (View.write_whole_univ _ _ _) (read_mine L A.x)) $$ H2
  have hr : TripleRange (mine L A.b) (mine L A.l) (mine L A.x) := fun j => hA _
  sl_for (inv d L q A (mine L A.b) (mine L A.l) (mine L A.x) O W) $$ [Hmw H0 H1 H2 HS HT H3 H5 H7 HvS HvT HO]
  case region =>
    intro k _
    unfold inv
    iintro ⟨#Hmw, HI⟩
    iapply (wp_wand frame _ _) $$ [HI]
    · iapply (trip d L q q A.s A.t (mine L A.b) (mine L A.l) (mine L A.x) O W hr k)
      isplitr; · iexact Hmw
      iexact HI
    iintro %_ H
    isplitr; · iexact Hmw
    iexact H
  · unfold inv between debt
    isplitl [Hmw]; · iexact Hmw
    isplitl [H0]; · iexact H0
    isplitl [H1]; · iexact H1
    isplitl [H2]; · iexact H2
    isplitl [HS]; · iexact HS
    isplitl [HT]; · iexact HT
    isplitl [H3]; · iexists f3; iexact H3
    isplitl [H5]; · iexists f5; iexact H5
    isplitl [H7]
    · iexists f7
      isplitr
      · ipureintro; exact fun r j _ h => absurd h (Nat.not_lt_zero _)
      · iexact H7
    isplitl [HvS]; · iexact HvS
    isplitl [HvT]; · iexact HvT
    iexists (insert (SemLoc.dma cc0_scoped2.sem, none) (insert (SemLoc.dma cc0_scoped1.sem, none) (insert (SemLoc.dma cc0_scoped0.sem, none) W)))
    isplitr
    · ipureintro
      intro p hp
      simp only [Finset.mem_insert] at hp
      rcases hp with rfl | rfl | rfl | hp
      · exact .inr rfl
      · exact .inr rfl
      · exact .inr rfl
      · exact .inl hp
    · iexact HO
  iintro %_ HI
  unfold inv between debt
  icases HI with ⟨#Hmw, H0, H1, H2, HS, HT, ⟨%g3, H3⟩, ⟨%g5, H5⟩, ⟨%o, %ho, H7⟩, HvS, HvT, %W', %hW', HO⟩
  ihave Ho := (show (oLoc d ↦[(outBlk L).view.set]{fullShare} fo : sProp 𝕄) ⊢ ((outBlk L).view.loc (thr d L) ↦[(outBlk L).view.set]{fullShare} (fo : Buf (Elt F) ((outBlk L).view.loc (thr d L))) : sProp 𝕄) from BI.Entails.refl _) $$ Ho
  sl_exec
  rw [wp_ret]; imodintro
  isplitl [Ho]
  · iexists ((outBlk L).view.writes (Elt F) fo [⟨Rect.whole S8x512, tile_body.sl.dma0_3 d L o⟩])
    isplitr
    · ipureintro
      exact filled_write d L A (fun _ => rfl) (fun _ => rfl) (fun _ => rfl) ho fo _ fun _ => rfl
    · iexact Ho
  isplitl [H0 H1 H2 H3 H5 H7 Hbufs]
  · isplitr [Hbufs]
    · isplitl [H0]; · iexists _; iexact H0
      isplitl [H1]; · iexists _; iexact H1
      isplitl [H2]; · iexists _; iexact H2
      isplitl [H3]; · iexists _; iexact H3
      isplitl [H5]; · iexists _; iexact H5
      iexists _; iexact H7
    · iexact Hbufs
  isplitl [HvS HvT Hv0 Hv1 Hv2 Hv3 Hsems]
  · isplitr [Hsems]
    · isplitl [HvS]; · iexact HvS
      isplitl [HvT]; · iexact HvT
      isplitl [Hv0]; · iexact Hv0
      isplitl [Hv1]; · iexact Hv1
      isplitl [Hv2]; · iexact Hv2
      iexact Hv3
    · iexact Hsems
  iexists (insert (SemLoc.dma cc0_scoped3.sem, none) W')
  isplitr
  · ipureintro
    intro p hp
    rcases Finset.mem_insert.mp hp with rfl | hp
    · exact .inr rfl
    · exact hW' p hp
  · iexact HO

end Cert.Proof.Run

end
-- ==== Proof.Launch.lean ====
/-
  The launch's obligations: what a call hands each tile and what it takes back, a tile's task read as its body, and
  the 32 tiles' columns joined to the whole result.
-/
module

public import proofs.«01_k».proof.Proof.Tile

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending shareTok shareDrop)

variable {F : FTy → Type} [FloatOps F]

local notation "𝕄" => MM F

/-! ## A tile by its SparseCore and its number -/

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same, the two as plain numbers. -/
abbrev tile (c : Fin 2) (i : Fin 16) : grid0.Coords := coordsV c i

theorem nCore_zero : (K (F := F)).nCore 0 = 2 := rfl
theorem nSub_zero : (K (F := F)).nSub 0 = 16 := rfl

/-! ## What a call hands out and takes back -/

/-- A tile's columns of the result, at any contents. -/
def blank (d : Dev nD) (L : grid0.Coords) : sProp 𝕄 := iprop(∃ f : Buf (Elt F) (oLoc d), oLoc d ↦[(outBlk L).view.set]{fullShare} f)

/-- A tile's columns of the result, filled. -/
def filled (d : Dev nD) (A : Ins F) (L : grid0.Coords) : sProp 𝕄 :=
  iprop(∃ f : Buf (Elt F) (oLoc d), ⌜Filled L A f⌝ ∗ oLoc d ↦[(outBlk L).view.set]{fullShare} f)

instance reads_storable (d : Dev nD) (A : Ins F) (q : PosShare TreeShare) : BI.Storable (upEmb : UEmb _ 𝕄) (reads d A q) := by
  unfold reads; infer_instance
instance blank_storable (d : Dev nD) (L : grid0.Coords) : BI.Storable (upEmb : UEmb _ 𝕄) (blank (F := F) d L) := by
  unfold blank; infer_instance
instance filled_storable (d : Dev nD) (A : Ins F) (L : grid0.Coords) : BI.Storable (upEmb : UEmb _ 𝕄) (filled d A L) := by
  unfold filled; infer_instance

variable (A : Dev nD → Ins F)

/-- Each SparseCore is handed a read share of the inputs and its sixteen tiles' columns; each tile a share of that share
    and its own columns. What comes back is the columns, filled. -/
def P : (K (F := F)).Pay (nD := nD) (Val := Elt F) (Name := ℕ) (U := UU) where
  st := fun q d c => match q with
    | 0 => iprop(reads d (A d) (shareTok fullShare 2 (Fin.cast nCore_zero c)) ∗ bigSep Finset.univ fun i : Fin 16 => blank d (tile (Fin.cast nCore_zero c) i))
  dn := fun q d c => match q with
    | 0 => bigSep Finset.univ fun i : Fin 16 => filled d (A d) (tile (Fin.cast nCore_zero c) i)
  go := fun q d c i => match q with
    | 0 => iprop(reads d (A d) (shareTok (shareTok fullShare 2 (Fin.cast nCore_zero c)) 16 (Fin.cast nSub_zero i))
        ∗ blank d (tile (Fin.cast nCore_zero c) (Fin.cast nSub_zero i)))
  td := fun q d c i => match q with
    | 0 => filled d (A d) (tile (Fin.cast nCore_zero c) (Fin.cast nSub_zero i))
  x := fun _ _ => iprop(emp)

instance P_storable : (P A).IsStorable where
  st q d c := match q with
    | 0 => (inferInstance : BI.Storable (upEmb : UEmb _ 𝕄)
        iprop(reads d (A d) (shareTok fullShare 2 (Fin.cast nCore_zero c)) ∗ bigSep Finset.univ fun i : Fin 16 => blank d (tile (Fin.cast nCore_zero c) i)))
  dn q d c := match q with
    | 0 => (inferInstance : BI.Storable (upEmb : UEmb _ 𝕄) (bigSep Finset.univ fun i : Fin 16 => filled d (A d) (tile (Fin.cast nCore_zero c) i)))
  go q d c i := match q with
    | 0 => (inferInstance : BI.Storable (upEmb : UEmb _ 𝕄)
        iprop(reads d (A d) (shareTok (shareTok fullShare 2 (Fin.cast nCore_zero c)) 16 (Fin.cast nSub_zero i))
          ∗ blank d (tile (Fin.cast nCore_zero c) (Fin.cast nSub_zero i))))
  td q d c i := match q with
    | 0 => (inferInstance : BI.Storable (upEmb : UEmb _ 𝕄) (filled d (A d) (tile (Fin.cast nCore_zero c) (Fin.cast nSub_zero i))))

/-! ## The tile's task -/

theorem defs₀_vector (c : Fin τ.nSC) (s : Fin τ.nSub) :
    defs₀ (F := F) (.scVector c s) 0 ()
      = SparseCore.onTile hcore0 hsub0 (fun c s => cc0_body (F := F) (coordsV c s)
          aB (Memref.isWhole_whole _) aL (Memref.isWhole_whole _) aX (Memref.isWhole_whole _) aT (Memref.isWhole_whole _) aS (Memref.isWhole_whole _) aO (Memref.isWhole_whole _)
          sB (Memref.isWhole_whole _) sL (Memref.isWhole_whole _) sX (Memref.isWhole_whole _) mS (Memref.isWhole_whole _) mS' (Memref.isWhole_whole _)
          mT (Memref.isWhole_whole _) mT' (Memref.isWhole_whole _) sO (Memref.isWhole_whole _)
          cc0_scratch8 cc0_scratch9 cc0_scoped0 cc0_scoped1 cc0_scoped2 cc0_scoped3) ⟨⟩ c s := rfl

/-- The waits a task ran, as the launch allows them. -/
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

theorem tileObl (hA : ∀ d, (A d).Ok) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (A d) (hA d) (shareTok (shareTok fullShare 2 (Fin.cast nCore_zero c)) 16 (Fin.cast nSub_zero i)) O W hO).trans
    (wp_mono frame _ _ fun _ => obl_post)

/-! ## A sequencer's share dealt to its tiles -/

/-- A share of the inputs split into `n` read shares; the remainder is let go. -/
theorem reads_split (d : Dev nD) (A : Ins F) (q : PosShare TreeShare) (n : ℕ) :
    reads d A q ⊢ (bigSep Finset.univ fun i : Fin n => reads d A (shareTok q n i) : sProp 𝕄) := by
  unfold reads
  simp only [bigSep_sep']
  iintro ⟨Hb, Hl, Hx, Hs, Ht⟩
  ihave Hb := (Transfers.pointsTo_toks_split q n) $$ Hb
  icases Hb with ⟨-, Hb⟩
  ihave Hl := (Transfers.pointsTo_toks_split q n) $$ Hl
  icases Hl with ⟨-, Hl⟩
  ihave Hx := (Transfers.pointsTo_toks_split q n) $$ Hx
  icases Hx with ⟨-, Hx⟩
  ihave Hs := (Transfers.pointsTo_toks_split q n) $$ Hs
  icases Hs with ⟨-, Hs⟩
  ihave Ht := (Transfers.pointsTo_toks_split q n) $$ Ht
  icases Ht with ⟨-, Ht⟩
  isplitl [Hb]; · iexact Hb
  isplitl [Hl]; · iexact Hl
  isplitl [Hx]; · iexact Hx
  isplitl [Hs]; · iexact Hs
  iexact Ht

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P A) 0 := by
  intro d c
  show iprop(reads d (A d) (shareTok fullShare 2 (Fin.cast nCore_zero c)) ∗ bigSep Finset.univ fun i : Fin 16 => blank d (tile (Fin.cast nCore_zero c) i))
    ⊢ |={Set.univ}=> iprop((bigSep Finset.univ fun i : Fin ((K (F := F)).nSub 0) =>
          iprop(reads d (A d) (shareTok (shareTok fullShare 2 (Fin.cast nCore_zero c)) 16 (Fin.cast nSub_zero i))
            ∗ blank d (tile (Fin.cast nCore_zero c) (Fin.cast nSub_zero i))))
        ∗ ((bigSep Finset.univ fun i : Fin ((K (F := F)).nSub 0) => filled d (A d) (tile (Fin.cast nCore_zero c) (Fin.cast nSub_zero i)))
          -∗ bigSep Finset.univ fun i : Fin 16 => filled d (A d) (tile (Fin.cast nCore_zero c) i)))
  rw [bigSep_tiles (fun i => iprop(reads d (A d) (shareTok (shareTok fullShare 2 (Fin.cast nCore_zero c)) 16 i) ∗ blank d (tile (Fin.cast nCore_zero c) i))),
    bigSep_tiles (fun i => filled d (A d) (tile (Fin.cast nCore_zero c) i)), bigSep_sep']
  iintro ⟨Hr, Ho⟩
  ihave Hr := (reads_split d (A d) _ 16) $$ Hr
  imodintro
  isplitl [Hr Ho]
  · isplitl [Hr]; · iexact Hr
    iexact Ho
  iintro H; iexact H

/-! ## The result as its tiles' columns -/

/-- The elements of tile `p`'s columns. -/
def cols (p : Fin 2 × Fin 16) : Finset S8x16384.Idx := (outBlk (tile p.1 p.2)).view.set

theorem mem_cols {p : Fin 2 × Fin 16} {i : S8x16384.Idx} : i ∈ cols p ↔ ∃ r j, ix2 r (colOf (tile p.1 p.2) j) = i := by
  unfold cols View.set
  rw [Finset.mem_map]
  constructor
  · rintro ⟨x, -, rfl⟩
    exact ⟨x 0, x 1, (outBlk_emb _ (x 0) (x 1)).symm.trans (congrArg (outBlk (tile p.1 p.2)).view.emb (eq_ix2 x).symm)⟩
  · rintro ⟨r, j, rfl⟩
    exact ⟨ix2 r j, Finset.mem_univ _, outBlk_emb _ r j⟩

theorem colOf_tile (c : Fin 2) (s : Fin 16) (j : Fin 512) : (colOf (tile c s) j).val = 1024 * s.val + 512 * c.val + j.val := rfl

theorem cols_disjoint : ∀ p ∈ (Finset.univ : Finset (Fin 2 × Fin 16)), ∀ p' ∈ (Finset.univ : Finset (Fin 2 × Fin 16)), p ≠ p' → Disjoint (cols p) (cols p') := by
  rintro ⟨c, s⟩ - ⟨c', s'⟩ - h
  refine Finset.disjoint_left.mpr fun i hi hi' => h ?_
  obtain ⟨r, j, rfl⟩ := mem_cols.mp hi
  obtain ⟨r', j', e⟩ := mem_cols.mp hi'
  have e := congrArg Fin.val (congrFun e 1)
  have e : (colOf (tile c' s') j').val = (colOf (tile c s) j).val := e
  rw [colOf_tile, colOf_tile] at e
  have := c.isLt; have := c'.isLt; have := j.isLt; have := j'.isLt
  exact Prod.ext (Fin.ext (by show c.val = c'.val; omega)) (Fin.ext (by show s.val = s'.val; omega))

/-- Every column is some tile's. -/
theorem col_of (n : Fin 16384) : ∃ c s j, n = colOf (tile c s) j :=
  ⟨⟨n.val / 512 % 2, by omega⟩, ⟨n.val / 1024, by omega⟩, ⟨n.val % 512, by omega⟩, Fin.ext (by rw [colOf_tile]; show n.val = 1024 * (n.val / 1024) + 512 * (n.val / 512 % 2) + n.val % 512; omega)⟩

theorem cols_cover : (Finset.univ : Finset (Fin 2 × Fin 16)).biUnion cols = Finset.univ := by
  refine Finset.eq_univ_iff_forall.mpr fun i => ?_
  obtain ⟨c, s, j, h⟩ := col_of (i 1)
  exact Finset.mem_biUnion.mpr ⟨(c, s), Finset.mem_univ _, mem_cols.mpr ⟨i 0, j, (congrArg (ix2 (i 0)) h.symm).trans (eq_ix2 i).symm⟩⟩

theorem bigSep_pairs (Φ : Fin 2 × Fin 16 → sProp 𝕄) :
    bigSep Finset.univ Φ = bigSep Finset.univ fun c : Fin 2 => bigSep Finset.univ fun s : Fin 16 => Φ (c, s) := by
  rw [← Finset.univ_product_univ]; exact SparseCore.bigSep_product _ _ Φ

/-- The result dealt out. -/
theorem blank_split (d : Dev nD) (f : Buf (Elt F) (oLoc d)) :
    (oLoc d ↦{fullShare} f) ⊢ (bigSep Finset.univ fun c : Fin 2 => bigSep Finset.univ fun s : Fin 16 => blank d (tile c s) : sProp 𝕄) := by
  have h : (oLoc d ↦{fullShare} f : sProp 𝕄) = bigSep Finset.univ fun p : Fin 2 × Fin 16 => oLoc d ↦[cols p]{fullShare} f := by
    rw [← pointsTo_biUnion Finset.univ (ℓ := oLoc d) cols cols_disjoint, cols_cover]; try rfl
  rw [h, bigSep_pairs]
  have one (c : Fin 2) (s : Fin 16) : (oLoc d ↦[cols (c, s)]{fullShare} f) ⊢ (blank d (tile c s) : sProp 𝕄) := by
    unfold blank
    iintro H
    iexists f; iexact H
  exact bigSep_mono fun c _ => bigSep_mono fun s _ => one c s

/-- The filled columns joined. -/
theorem filled_join (d : Dev nD) (A : Ins F) (f₀ : Buf (Elt F) (oLoc d)) :
    (bigSep Finset.univ fun c : Fin 2 => bigSep Finset.univ fun s : Fin 16 => filled d A (tile c s))
      ⊢ (iprop(∃ f : Buf (Elt F) (oLoc d), ⌜∀ (r : Fin 8) (n : Fin 16384), r ≠ 7 → (f : S8x16384.Idx → F .f32) (ix2 r n) = A.want r n⌝ ∗ oLoc d ↦{fullShare} f) : sProp 𝕄) := by
  rw [← bigSep_pairs (fun p => filled d A (tile p.1 p.2))]
  haveI : Nonempty (Buf (Elt F) (oLoc d)) := ⟨f₀⟩
  refine (bigSep_exists_pi Finset.univ (fun (p : Fin 2 × Fin 16) (f : Buf (Elt F) (oLoc d)) =>
    iprop(⌜Filled (tile p.1 p.2) A f⌝ ∗ oLoc d ↦[cols p]{fullShare} f))).trans ?_
  iintro ⟨%fs, H⟩
  ihave H := (bigSep_pure_sep Finset.univ (fun p : Fin 2 × Fin 16 => Filled (tile p.1 p.2) A (fs p)) (fun p => oLoc d ↦[cols p]{fullShare} fs p)) $$ H
  icases H with ⟨%hf, H⟩
  ihave H' := (pointsTo_biUnion_join Finset.univ cols fs f₀ cols_disjoint) $$ H
  icases H' with ⟨%g, %hg, Hg⟩
  rw [cols_cover]
  iexists g
  isplitr
  · ipureintro
    intro r n hr
    obtain ⟨c, s, j, rfl⟩ := col_of n
    exact (hg (c, s) (Finset.mem_univ _) _ (mem_cols.mpr ⟨r, j, rfl⟩)).trans (hf (c, s) (Finset.mem_univ _) r j hr)
  iexact Hg

/-! ## The launch's ghost state: the handshakes' rounds; nothing of the kernel's own -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

end Cert.Proof.Run

end
-- ==== Proof.Host.lean ====
/-
  The host's program: the operations before the call, as functions of the arguments; the call; the slice and the
  transpose after it; and the run of the whole program.
-/
module

public import proofs.«01_k».proof.Proof.Launch
public import Idealize.ShloMosaic.Lib.Pipeline.Frame

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)
open Idealize.ShloMosaic.Pipeline (ucRefs sub_ucRefs unscopedBufs_held)
open Idealize.ShloMosaic.Transfers (Batch pending shareTok shareDrop)

variable {F : FTy → Type} [FloatOps F]

local notation "𝕄" => MM F

/-! ## The host's operations -/

/-- The operations before the call. -/
def pre : List (HloOp τ sig (Elt F)) :=
  [StableHlo.nullary main_c (constantI S_ 32 0#32),
   StableHlo.unary main_c main_call0_v0 (id : (⟨S_, .i32⟩ : BufTy).Contents (Elt F) → (⟨S_, .i32⟩ : BufTy).Contents (Elt F)),
   StableHlo.binary main_arg2 main_call0_v0 main_v0 ((fun x v => pad S16384x3 ![0, 0] ![384, 0] ![0, 0] x v pads_S16000x3_S16384x3_03840_000 h_S_) : (⟨S16000x3, .i32⟩ : BufTy).Contents (Elt F) → (⟨S_, .i32⟩ : BufTy).Contents (Elt F) → (⟨S16384x3, .i32⟩ : BufTy).Contents (Elt F)),
   StableHlo.unary main_v0 main_v1 ((extractStridedSlice S16384x1 ![0, 0] · slices_S16384x3_S16384x1_0_0) : (⟨S16384x3, .i32⟩ : BufTy).Contents (Elt F) → (⟨S16384x1, .i32⟩ : BufTy).Contents (Elt F)),
   StableHlo.reshape main_v1 main_v2 (rfl : (.i32 : EltTy) = .i32) shapeCasts_S16384x1_S16384,
   StableHlo.unary main_v0 main_v3 ((extractStridedSlice S16384x1 ![0, 1] · slices_S16384x3_S16384x1_0_1) : (⟨S16384x3, .i32⟩ : BufTy).Contents (Elt F) → (⟨S16384x1, .i32⟩ : BufTy).Contents (Elt F)),
   StableHlo.reshape main_v3 main_v4 (rfl : (.i32 : EltTy) = .i32) shapeCasts_S16384x1_S16384,
   StableHlo.unary main_v0 main_v5 ((extractStridedSlice S16384x1 ![0, 2] · slices_S16384x3_S16384x1_0_2) : (⟨S16384x3, .i32⟩ : BufTy).Contents (Elt F) → (⟨S16384x1, .i32⟩ : BufTy).Contents (Elt F)),
   StableHlo.reshape main_v5 main_v6 (rfl : (.i32 : EltTy) = .i32) shapeCasts_S16384x1_S16384,
   StableHlo.unary main_arg1 main_v7 ((transpose S91x32x20000 [2, 0, 1] · transposes_S32x20000x91_S91x32x20000_2_0_1) : (⟨S32x20000x91, .f32⟩ : BufTy).Contents (Elt F) → (⟨S91x32x20000, .f32⟩ : BufTy).Contents (Elt F)),
   StableHlo.reshape main_v7 main_v8 (rfl : (.f32 : EltTy) = .f32) shapeCasts_S91x32x20000_S2912x20000,
   StableHlo.unary main_arg0 main_v9 ((transpose S32x4x20000 [0, 2, 1] · transposes_S32x20000x4_S32x4x20000_0_2_1) : (⟨S32x20000x4, .f32⟩ : BufTy).Contents (Elt F) → (⟨S32x4x20000, .f32⟩ : BufTy).Contents (Elt F))]

/-- The operations after it. -/
def post : List (HloOp τ sig (Elt F)) :=
  [StableHlo.unary main_v10 main_v11 ((extractStridedSlice S7x16000 ![0, 0] · slices_S8x16384_S7x16000_0_0) : (⟨S8x16384, .f32⟩ : BufTy).Contents (Elt F) → (⟨S7x16000, .f32⟩ : BufTy).Contents (Elt F)),
   StableHlo.unary main_v11 main_v12 ((transpose S16000x7 [1, 0] · transposes_S7x16000_S16000x7_1_0) : (⟨S7x16000, .f32⟩ : BufTy).Contents (Elt F) → (⟨S16000x7, .f32⟩ : BufTy).Contents (Elt F))]

theorem main_eq (d : Dev nD) :
    (main (F := F) d) = StableHlo.seq pre >>= fun _ => (K (F := F)).run d 0 >>= fun _ => StableHlo.seq post := rfl

/-! ## What the kernel is given -/

/-- The padded triples. -/
def padded (a2 : S16000x3.Idx → BitVec 32) : S16384x3.Idx → BitVec 32 :=
  pad S16384x3 ![0, 0] ![384, 0] ![0, 0] a2 (constantI S_ 32 0#32) pads_S16000x3_S16384x3_03840_000 h_S_

/-- The kernel's inputs, from the program's arguments. -/
def insOf (a0 : S32x20000x4.Idx → F .f32) (a1 : S32x20000x91.Idx → F .f32) (a2 : S16000x3.Idx → BitVec 32) : Ins F where
  b := shapeCast S16384 (extractStridedSlice S16384x1 ![0, 0] (padded a2) slices_S16384x3_S16384x1_0_0) shapeCasts_S16384x1_S16384
  l := shapeCast S16384 (extractStridedSlice S16384x1 ![0, 1] (padded a2) slices_S16384x3_S16384x1_0_1) shapeCasts_S16384x1_S16384
  x := shapeCast S16384 (extractStridedSlice S16384x1 ![0, 2] (padded a2) slices_S16384x3_S16384x1_0_2) shapeCasts_S16384x1_S16384
  s := shapeCast S2912x20000 (transpose S91x32x20000 [2, 0, 1] a1 transposes_S32x20000x91_S91x32x20000_2_0_1) shapeCasts_S91x32x20000_S2912x20000
  t := transpose S32x4x20000 [0, 2, 1] a0 transposes_S32x20000x4_S32x4x20000_0_2_1

variable (m : (ℓ : Loc nD τ sig) → Buf (Elt F) ℓ)

/-- The launch's contents. -/
abbrev V0 (d : Dev nD) : Valuation τ sig (Elt F) := fun b => m (d, b)

/-- The kernel's inputs at a launch. -/
def ins (d : Dev nD) : Ins F :=
  insOf (m ((SparseCore.T d).loc main_arg0)) (m ((SparseCore.T d).loc main_arg1)) (m ((SparseCore.T d).loc main_arg2))

abbrev ref (b : Ref sig .tc) : DevRef τ sig := Proc.devRef .tc b

theorem pre_b (d : Dev nD) : after pre (V0 m d) (ref main_v2) = (ins m d).b := by
  unfold pre; after_results_simp; rfl
theorem pre_l (d : Dev nD) : after pre (V0 m d) (ref main_v4) = (ins m d).l := by
  unfold pre; after_results_simp; rfl
theorem pre_x (d : Dev nD) : after pre (V0 m d) (ref main_v6) = (ins m d).x := by
  unfold pre; after_results_simp; rfl
theorem pre_s (d : Dev nD) : after pre (V0 m d) (ref main_v8) = (ins m d).s := by
  unfold pre; after_results_simp; rfl
theorem pre_t (d : Dev nD) : after pre (V0 m d) (ref main_v9) = (ins m d).t := by
  unfold pre; after_results_simp; rfl

/-- The program's arguments. -/
def argRefs : Finset (DevRef τ sig) := {ref main_arg0, ref main_arg1, ref main_arg2}
/-- What the call reads. -/
def inRefs : Finset (DevRef τ sig) := {ref main_v2, ref main_v4, ref main_v6, ref main_v8, ref main_v9}
/-- What is written from the call on. -/
def outRefs : Finset (DevRef τ sig) := {ref main_v10, ref main_v11, ref main_v12}

theorem pre_args (d : Dev nD) : (held (T d) argRefs (after pre (V0 m d)) : sProp 𝕄) = held (T d) argRefs (V0 m d) := by
  refine StableHlo.held_congr _ fun b hb => ?_
  simp only [argRefs, Finset.mem_insert, Finset.mem_singleton] at hb
  rcases hb with rfl | rfl | rfl
  all_goals unfold pre; after_results_simp

theorem pre_sub : ∀ op ∈ pre (F := F), op.bufs ⊆ ucRefs τ sig := fun op hop =>
  sub_ucRefs op ((List.forall_iff_forall_mem.mp (show (pre (F := F)).Forall fun op => op.bufs ⊆ StableHlo.tcRefs τ sig by
    exact ⟨StableHlo.nullary_bufs_sub .., StableHlo.unary_bufs_sub .., StableHlo.binary_bufs_sub .., StableHlo.unary_bufs_sub .., StableHlo.reshape_bufs_sub ..,
      StableHlo.unary_bufs_sub .., StableHlo.reshape_bufs_sub .., StableHlo.unary_bufs_sub .., StableHlo.reshape_bufs_sub .., StableHlo.unary_bufs_sub ..,
      StableHlo.reshape_bufs_sub .., StableHlo.unary_bufs_sub ..⟩)) op hop)
theorem pre_fresh : ∀ op ∈ pre (F := F), op.fresh = ∅ := List.forall_iff_forall_mem.mp (StableHlo.forall_fresh_of_map rfl)
theorem post_sub : ∀ op ∈ post (F := F), op.bufs ⊆ outRefs := by
  intro op hop
  simp only [post, List.mem_cons, List.not_mem_nil, or_false] at hop
  rcases hop with rfl | rfl
  · exact show ({ref main_v10, ref main_v11} : Finset (DevRef τ sig)) ⊆ outRefs by decide
  · exact show ({ref main_v11, ref main_v12} : Finset (DevRef τ sig)) ⊆ outRefs by decide
theorem post_fresh : ∀ op ∈ post (F := F), op.fresh = ∅ := List.forall_iff_forall_mem.mp (StableHlo.forall_fresh_of_map rfl)

/-! ## The result -/

/-- The program's result at a launch. -/
def res (d : Dev nD) : S16000x7.Idx → F .f32 := fun i =>
  (ins m d).want ((i 1 : Fin 7).castLE (by decide)) ((i 0 : Fin 16000).castLE (by decide))

theorem post_result (d : Dev nD) (V : Valuation τ sig (Elt F)) (f : S8x16384.Idx → F .f32) (hV : V (ref main_v10) = f)
    (hf : ∀ (r : Fin 8) (n : Fin 16384), r ≠ 7 → f (ix2 r n) = (ins m d).want r n) :
    after post V (ref main_v12) = res m d := by
  unfold post; after_results_simp
  rw [hV]
  funext i
  have hi : (i 1 : Fin 7).castLE (by decide) ≠ (7 : Fin 8) := fun e => by
    have := congrArg Fin.val e
    have h1 : (i 1).val < 7 := (i 1).isLt
    have : (i 1).val = 7 := this
    omega
  refine Eq.trans (congrArg f ?_) (hf ((i 1 : Fin 7).castLE (by decide)) ((i 0 : Fin 16000).castLE (by decide)) hi)
  funext a; apply Fin.ext
  match a with
  | 0 => exact Nat.zero_add _
  | 1 => exact Nat.zero_add _

/-! ## What the call takes and gives back -/

theorem in_sub : inRefs ⊆ ucRefs τ sig := by
  intro b hb
  simp only [inRefs, Finset.mem_insert, Finset.mem_singleton] at hb
  refine Finset.mem_filter.mpr ⟨?_, ?_⟩
  · rcases hb with rfl | rfl | rfl | rfl | rfl <;> exact StableHlo.devRef_mem_tcRefs _
  · rcases hb with rfl | rfl | rfl | rfl | rfl <;> exact Bool.false_ne_true
theorem out_sub : outRefs ⊆ ucRefs τ sig \ inRefs := by
  intro b hb
  refine Finset.mem_sdiff.mpr ⟨Finset.mem_filter.mpr ⟨?_, ?_⟩, ?_⟩
  · simp only [outRefs, Finset.mem_insert, Finset.mem_singleton] at hb
    rcases hb with rfl | rfl | rfl <;> exact StableHlo.devRef_mem_tcRefs _
  · simp only [outRefs, Finset.mem_insert, Finset.mem_singleton] at hb
    rcases hb with rfl | rfl | rfl <;> exact Bool.false_ne_true
  · revert b; decide
theorem arg_sub : argRefs ⊆ (ucRefs τ sig \ inRefs) \ outRefs := by
  intro b hb
  refine Finset.mem_sdiff.mpr ⟨Finset.mem_sdiff.mpr ⟨Finset.mem_filter.mpr ⟨?_, ?_⟩, ?_⟩, ?_⟩
  · simp only [argRefs, Finset.mem_insert, Finset.mem_singleton] at hb
    rcases hb with rfl | rfl | rfl <;> exact StableHlo.devRef_mem_tcRefs _
  · simp only [argRefs, Finset.mem_insert, Finset.mem_singleton] at hb
    rcases hb with rfl | rfl | rfl <;> exact Bool.false_ne_true
  · revert b; decide
  · revert b; decide

/-- The five arrays the call reads, at the full share. -/
theorem held_in (d : Dev nD) : (held (T d) inRefs (after pre (V0 m d)) : sProp 𝕄) = reads d (ins m d) fullShare := by
  unfold held inRefs reads
  rw [SparseCore.bigSep_insert' (by decide), SparseCore.bigSep_insert' (by decide), SparseCore.bigSep_insert' (by decide),
    SparseCore.bigSep_insert' (by decide), bigSep_singleton, pre_b, pre_l, pre_x, pre_s, pre_t]
  try rfl

theorem held_out (d : Dev nD) (V : Valuation τ sig (Elt F)) :
    (held (T d) outRefs V : sProp 𝕄) = iprop((oLoc d ↦{fullShare} V (ref main_v10)) ∗ ((SparseCore.T d).loc main_v11 ↦{fullShare} V (ref main_v11))
      ∗ (SparseCore.T d).loc main_v12 ↦{fullShare} V (ref main_v12)) := by
  unfold held outRefs
  rw [SparseCore.bigSep_insert' (by decide), SparseCore.bigSep_insert' (by decide), bigSep_singleton]

theorem held_args (d : Dev nD) (V : Valuation τ sig (Elt F)) :
    (held (T d) argRefs V : sProp 𝕄) = iprop(((SparseCore.T d).loc main_arg0 ↦{fullShare} V (ref main_arg0)) ∗ ((SparseCore.T d).loc main_arg1 ↦{fullShare} V (ref main_arg1))
      ∗ (SparseCore.T d).loc main_arg2 ↦{fullShare} V (ref main_arg2)) := by
  unfold held argRefs
  rw [SparseCore.bigSep_insert' (by decide), SparseCore.bigSep_insert' (by decide), bigSep_singleton]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (A : Dev nD → Ins F)

theorem st0_eq (d : Dev nD) : (bigSep Finset.univ fun c : Fin ((K (F := F)).nCore 0) => (P A).st 0 d c)
    = iprop((bigSep Finset.univ fun c : Fin 2 => reads d (A d) (shareTok fullShare 2 c)) ∗ bigSep Finset.univ fun c : Fin 2 => bigSep Finset.univ fun s : Fin 16 => blank d (tile c s)) := by
  rw [← bigSep_sep']
  exact bigSep_cores (fun c => iprop(reads d (A d) (shareTok fullShare 2 c) ∗ bigSep Finset.univ fun s : Fin 16 => blank d (tile c s)))
theorem dn0_eq (d : Dev nD) : (bigSep Finset.univ fun c : Fin ((K (F := F)).nCore 0) => (P A).dn 0 d c)
    = bigSep Finset.univ fun c : Fin 2 => bigSep Finset.univ fun s : Fin 16 => filled d (A d) (tile c s) :=
  bigSep_cores (fun c => bigSep Finset.univ fun s : Fin 16 => filled d (A d) (tile c s))

/-! ## The TensorCore's run -/

variable (ρ : Dev nD → PrngReg)

/-- What the program leaves: the arguments as they were, the result. -/
abbrev FIN (d : Dev nD) : sProp 𝕄 :=
  iprop(held (T d) argRefs (V0 m d) ∗ (SparseCore.T d).loc main_v12 ↦{fullShare} (res m d : Buf (Elt F) ((SparseCore.T d).loc main_v12)))

/-- After the call: the result array at what the tiles left. -/
def V1 (d : Dev nD) (f : Buf (Elt F) (oLoc d)) : Valuation τ sig (Elt F) := Function.update (after pre (V0 m d)) (ref main_v10) f

theorem V1_v10 (d : Dev nD) (f : Buf (Elt F) (oLoc d)) : V1 m d f (ref main_v10) = f := Function.update_self _ _ _
theorem V1_v11 (d : Dev nD) (f : Buf (Elt F) (oLoc d)) : V1 m d f (ref main_v11) = after pre (V0 m d) (ref main_v11) :=
  Function.update_of_ne (show ref main_v11 ≠ ref main_v10 by decide) _ _
theorem V1_v12 (d : Dev nD) (f : Buf (Elt F) (oLoc d)) : V1 m d f (ref main_v12) = after pre (V0 m d) (ref main_v12) :=
  Function.update_of_ne (show ref main_v12 ≠ ref main_v10 by decide) _ _

set_option backward.isDefEq.respectTransparency.types false in
theorem hmain (κ : GSem nD τ sig → ℕ) (d : Dev nD) :
    iprop((K (F := F)).ctx EH (P (ins m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (T d) (ucRefs τ sig) (V0 m d) from unscopedBufs_held d (V0 m d)]
  iintro ⟨#Hctx, Hst, ⟨Hb, Hheld, Hts, -⟩, -⟩
  iapply (StableHlo.wp_seq 𝒱 none Set.univ d (ucRefs τ sig) _ pre pre_sub pre_fresh (V0 m d)) $$ [Hb Hheld]
  · isplitl [Hb]; · iexact Hb
    iexact Hheld
  iintro ⟨Hb, Hheld⟩
  ihave Hheld := (Entails.of_eq (StableHlo.held_sub_split (T d) in_sub _)) $$ Hheld
  icases Hheld with ⟨Hin, Hheld⟩
  ihave Hheld := (Entails.of_eq (StableHlo.held_sub_split (T d) out_sub _)) $$ Hheld
  icases Hheld with ⟨Hout, Hheld⟩
  ihave Hheld := (Entails.of_eq (StableHlo.held_sub_split (T d) arg_sub _)) $$ Hheld
  icases Hheld with ⟨Harg, -⟩
  ihave Harg := (Entails.of_eq (pre_args m d)) $$ Harg
  ihave Hin := (Entails.of_eq (held_in m d)) $$ Hin
  ihave Hin := (reads_split d (ins m d) fullShare 2) $$ Hin
  ihave Hout := (Entails.of_eq (held_out d _)) $$ Hout
  icases Hout with ⟨Ho, H11, H12⟩
  ihave Ho := (blank_split d _) $$ Ho
  rw [wp_bind]
  iapply ((K (F := F)).wp_run (D (F := F)) 𝒱 (EH := EH) (P := P (ins m)) κ d 0) $$ [Hst Hin Ho Hb H11 H12 Harg Hts]
  isplitr; · iexact Hctx
  isplitl [Hst]; · iexact Hst
  isplitl [Hin Ho]
  · rw [st0_eq]
    isplitl [Hin]; · iexact Hin
    iexact Ho
  iintro ⟨Hst, Hdn⟩
  ihave Hdn := (Entails.of_eq (dn0_eq (ins m) d)) $$ Hdn
  ihave Hdn := (filled_join d (ins m d) (after pre (V0 m d) (ref main_v10))) $$ Hdn
  icases Hdn with ⟨%f, %hf, Ho⟩
  rw [← bind_pure (StableHlo.seq post)]
  iapply (StableHlo.wp_seq 𝒱 none Set.univ d outRefs _ post post_sub post_fresh (V1 m d f)) $$ [Hb Ho H11 H12]
  · isplitl [Hb]; · iexact Hb
    rw [held_out, V1_v10, V1_v11, V1_v12]
    isplitl [Ho]; · iexact Ho
    isplitl [H11]; · iexact H11
    iexact H12
  iintro ⟨Hb, Hout⟩
  ihave Hout := (Entails.of_eq (held_out d _)) $$ Hout
  icases Hout with ⟨-, -, H12⟩
  rw [post_result m d (V1 m d f) f (V1_v10 m d f) hf]
  rw [wp_pure]; imodintro
  isplitl [Hst]; · iexact Hst
  isplitl [Harg H12]
  · isplitl [Harg]; · iexact Harg
    iexact H12
  isplitl [Hb] <;> iassumption

end Cert.Proof.Run

end
-- ==== Proof.Whole.lean ====
/-
  The run of the whole program: from any memory whose inputs are in range, every execution ends with the result of the
  host's last operation as stated, the arguments as they were, and every semaphore at zero.
-/
module

public import proofs.«01_k».proof.Proof.Host

@[expose] public section

noncomputable section

namespace Cert.Proof.Run

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)
open Idealize.ShloMosaic.Pipeline (ucRefs sub_ucRefs unscopedBufs_held)
open Idealize.ShloMosaic.Transfers (Batch pending shareTok shareDrop)

variable {F : FTy → Type} [FloatOps F]

local notation "𝕄" => MM F

variable (m : (ℓ : Loc nD τ sig) → Buf (Elt F) ℓ) (ρ : Dev nD → PrngReg)

/-- What a device's part of the final memory is. -/
def fq (d : Dev nD) (s' : Phys nD τ sig (Elt F)) : Prop :=
  s'.mem.mem ((SparseCore.T d).loc main_v12) = res m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

/-- A buffer owned whole holds, in the final memory, what it is owned at. -/
theorem final_eq (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  refine (persistent_entails_right (SI_pointsTo_agree (st := s') (ℓ := ℓ) (I := Finset.univ) (q := fullShare) (f := f))).trans ?_
  iintro ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  rw [held_args]
  iintro ⟨⟨⟨H0, H1, H2⟩, H12⟩, HSI⟩
  ihave H := (final_eq s' _ _) $$ [HSI H12]
  · isplitl [HSI] <;> iassumption
  icases H with ⟨%h12, HSI⟩
  ihave H := (final_eq s' _ _) $$ [HSI H0]
  · isplitl [HSI] <;> iassumption
  icases H with ⟨%h0, HSI⟩
  ihave H := (final_eq s' _ _) $$ [HSI H1]
  · isplitl [HSI] <;> iassumption
  icases H with ⟨%h1, HSI⟩
  ihave H := (final_eq s' _ _) $$ [HSI H2]
  · isplitl [HSI] <;> iassumption
  icases H with ⟨%h2, HSI⟩
  ipureintro; exact ⟨h12, h0, h1, h2⟩

/-- What the run ends in: each device's part, and every semaphore at zero. -/
def QC : PUnit × MemSt nD τ sig (Elt F) → Prop := fun r =>
  (∀ d : Dev nD, r.2.mem ((SparseCore.T d).loc main_v12) = res m d
    ∧ r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)) ∧ r.2.sem = fun _ => 0

/-- The run, over any float values. -/
theorem run_main [∀ e, Nonempty (Elt F e)] (hok : ∀ d, (ins m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) launchFacts v₀
    (fun q hq => match q with | 0 => nomatch hq)
    (fun q _ => match q with | 0 => tileObl (ins m) hok)
    (fun q _ => match q with | 0 => SparseCore.Cfg.VecSplit.of_plain (vecSplit (ins m)))
    m ρ main (fun _ => iprop(emp)) (FIN m) (u₀ (F := F)) (sep_elim_left.trans (hu₀ (ins m))) (hmain m ρ) (fq m) (hfin m) (QC m)
    (fun _ h hz => ⟨h, hz⟩)

end Cert.Proof.Run

end
-- ==== Proof.Entries.lean ====
/-
  The kernel's inputs read entry by entry: which entry of the program's arguments each of them is, and what the
  precondition says of them.
-/
module

public import proofs.«01_k».proof.Proof.Host
public import proofs.«01_k».proof.Proof.Gen.Pre_in_range
public import Idealize.ShloMosaic.Lib.ReduceAll
public import Idealize.ShloMosaic.Lib.KernelVsHost

@[expose] public section

noncomputable section

namespace Cert.Proof.Run

open Cert.KernelIdeal Cert.KernelIdeal.Gen

open Idealize.ShloMosaic
open Idealize.ShloMosaic.ValueIdx

variable {F : FTy → Type} [FloatOps F]

/-! ## The range of the triples -/

/-- Every triple names an image, a label and an anchor below 19968. -/
def TriplesOk (a2 : S16000x3.Idx → BitVec 32) : Prop :=
  ∀ n : Fin 16000, (a2 (ix2 n 0)).toNat < 32 ∧ (a2 (ix2 n 1)).toNat < 91 ∧ (a2 (ix2 n 2)).toNat < 19968

/-- A word between zero and a bound, both compared as signed words, is a number below the bound. -/
theorem toNat_lt_of_cmp (v c : BitVec 32) (hc : c.toNat < 2 ^ 31)
    (e : IntOp.andi (IntOp.cmpi .sge v 0#32) (IntOp.cmpi .slt v c) = 1#1) : v.toNat < c.toNat := by
  have both (p q : Bool) (h : IntOp.andi (BitVec.ofBool p) (BitVec.ofBool q) = 1#1) : p = true ∧ q = true := by
    revert h; cases p <;> cases q <;> decide
  obtain ⟨h0, h1⟩ := both _ _ e
  change (0#32).sle v = true at h0
  change v.slt c = true at h1
  rw [BitVec.sle_eq_decide, decide_eq_true_eq] at h0
  rw [BitVec.slt_eq_decide, decide_eq_true_eq] at h1
  simp only [BitVec.toInt_eq_toNat_cond, BitVec.toNat_ofNat, Nat.reducePow, Nat.reduceMod] at h0 h1
  omega

/-- The precondition is that range. -/
theorem triplesOk_of_pre (a0 : S32x20000x4.Idx → F .f32) (a1 : S32x20000x91.Idx → F .f32) (a2 : S16000x3.Idx → BitVec 32)
    (h : Cert.Pre_in_range.fn (F := F) a0 a1 a2 = fun _ => 1#1) : TriplesOk a2 := by
  have one (n : Fin 16000) (k : Fin 3) : (a2 (ix2 n k)).toNat < (Cert.Pre_in_range.lit0 k).toNat := by
    haveI : Subsingleton Cert.Pre_in_range.S_.Idx := ⟨fun a b => funext fun x => x.elim0⟩
    have e := Host.reduce_andi_all _ _ _ _ ix0 (congrFun h ix0) (ix2 n k)
    refine toNat_lt_of_cmp _ _ (by fin_cases k <;> decide) (Eq.trans ?_ e)
    refine congrArg (fun c => IntOp.andi (IntOp.cmpi .sge (a2 (ix2 n k)) 0#32) (IntOp.cmpi .slt (a2 (ix2 n k)) c)) ?_
    refine congrArg Cert.Pre_in_range.lit0 ?_
    apply Fin.ext
    rw [Shape.rowMajor_val_one]
    rfl
  exact fun n => ⟨one n 0, one n 1, one n 2⟩

/-! ## A column of the triples -/

/-- A column sliced off and flattened, read at a row. -/
theorem column_apply {α : Type} {N : ℕ} (p : (⟨2, ![N, 3]⟩ : Shape).Idx → α) (k : Fin 3)
    (h : (⟨2, ![N, 3]⟩ : Shape).Slices ![0, k.val] ⟨2, ![N, 1]⟩) (h' : (⟨2, ![N, 1]⟩ : Shape).ShapeCasts ⟨1, ![N]⟩) (n : Fin N) :
    shapeCast ⟨1, ![N]⟩ (extractStridedSlice ⟨2, ![N, 1]⟩ ![0, k.val] p h) h' (ix1 n) = p (ix2 n k) := by
  refine (shapeCast_apply _ h' (ix1 n) (ix2 n (0 : Fin 1)) ?_).trans (congrArg p ?_)
  · rw [Shape.rowMajor_val_one, Shape.rowMajor_val_two]
    exact Nat.mul_one _
  · funext a; apply Fin.ext
    match a with
    | 0 => exact Nat.zero_add _
    | 1 => rfl

/-- The padded triples, at a row of the argument. -/
theorem padded_inside (a2 : S16000x3.Idx → BitVec 32) (n : Fin 16384) (hn : n.val < 16000) (k : Fin 3) :
    padded a2 (ix2 n k) = a2 (ix2 ⟨n.val, hn⟩ k) := by
  refine pad_apply_of_inside _ _ _ _ _ _ _ _ _ fun a => ?_
  match a with
  | 0 => show n.val = 0 + n.val * (0 + 1); omega
  | 1 => show k.val = 0 + k.val * (0 + 1); omega

/-- The padded triples, at a row past the argument's. -/
theorem padded_outside (a2 : S16000x3.Idx → BitVec 32) (n : Fin 16384) (hn : ¬ n.val < 16000) (k : Fin 3) :
    padded a2 (ix2 n k) = 0#32 := by
  refine pad_apply_of_not_inside _ _ _ _ _ _ _ _ 0 ?_
  rintro ⟨-, -, h⟩
  have : (n.val - 0) / (0 + 1) < 16000 := h
  omega

section
variable (a0 : S32x20000x4.Idx → F .f32) (a1 : S32x20000x91.Idx → F .f32) (a2 : S16000x3.Idx → BitVec 32)

theorem insOf_b (n : Fin 16384) : (insOf a0 a1 a2).b (ix1 n) = padded a2 (ix2 n 0) := column_apply (padded a2) 0 slices_S16384x3_S16384x1_0_0 shapeCasts_S16384x1_S16384 n
theorem insOf_l (n : Fin 16384) : (insOf a0 a1 a2).l (ix1 n) = padded a2 (ix2 n 1) := column_apply (padded a2) 1 slices_S16384x3_S16384x1_0_1 shapeCasts_S16384x1_S16384 n
theorem insOf_x (n : Fin 16384) : (insOf a0 a1 a2).x (ix1 n) = padded a2 (ix2 n 2) := column_apply (padded a2) 2 slices_S16384x3_S16384x1_0_2 shapeCasts_S16384x1_S16384 n

/-- Triples in range, padded with zeros, are in range. -/
theorem insOf_ok (h : TriplesOk a2) : (insOf a0 a1 a2).Ok := by
  intro i
  obtain ⟨n, rfl⟩ : ∃ n, i = ix1 n := ⟨_, eq_ix1 i⟩
  rw [insOf_b, insOf_l, insOf_x]
  by_cases hn : n.val < 16000
  · rw [padded_inside a2 n hn, padded_inside a2 n hn, padded_inside a2 n hn]
    exact h ⟨n.val, hn⟩
  · rw [padded_outside a2 n hn, padded_outside a2 n hn, padded_outside a2 n hn]
    decide

/-! ## The tables -/

/-- The score table: row `l * 32 + b` is label `l` of image `b`. -/
theorem insOf_s (b : Fin 32) (l : Fin 91) (x : Fin 20000) (r : Fin 2912) (hr : r.val = l.val * 32 + b.val) :
    (insOf a0 a1 a2).s (ix2 r x) = a1 (ix3 b x l) := by
  refine (shapeCast_apply (transpose S91x32x20000 [2, 0, 1] a1 transposes_S32x20000x91_S91x32x20000_2_0_1) shapeCasts_S91x32x20000_S2912x20000 (ix2 r x) (ix3 l b x) ?_).trans
    (congrArg a1 (?_ : _ = ix3 b x l))
  · rw [Shape.rowMajor_val_three, Shape.rowMajor_val_two]
    show (l.val * 32 + b.val) * 20000 + x.val = r.val * 20000 + x.val
    rw [hr]
  · funext a
    match a with
    | 0 => rfl
    | 1 => rfl
    | 2 => rfl

/-- The box table: the argument's with its last two axes exchanged. -/
theorem insOf_t (b : Fin 32) (k : Fin 4) (x : Fin 20000) : (insOf a0 a1 a2).t (ix3 b k x) = a0 (ix3 b x k) := by
  refine congrArg a0 (?_ : _ = ix3 b x k)
  funext a
  match a with
  | 0 => rfl
  | 1 => rfl
  | 2 => rfl

/-! ## The result's rows, from the arguments -/

/-- Row `n` of the result, from the arguments: the image, its anchor's four box numbers, the score of the label, the
    label. Indices are taken modulo the tables' extents only so that they are defined for all words. -/
def row (n : Fin 16000) (r : Fin 7) : F .f32 :=
  let b := a2 (ix2 n 0)
  let l := a2 (ix2 n 1)
  let x := a2 (ix2 n 2)
  if r = 0 then FloatOps.sitofp .f32 b
  else if r = 5 then a1 (ix3 ⟨b.toNat % 32, Nat.mod_lt _ (by decide)⟩ ⟨x.toNat % 20000, Nat.mod_lt _ (by decide)⟩ ⟨l.toNat % 91, Nat.mod_lt _ (by decide)⟩)
  else if r = 6 then FloatOps.sitofp .f32 l
  else a0 (ix3 ⟨b.toNat % 32, Nat.mod_lt _ (by decide)⟩ ⟨x.toNat % 20000, Nat.mod_lt _ (by decide)⟩ ⟨(r.val - 1) % 4, Nat.mod_lt _ (by decide)⟩)

/-- What the tiles are to write is those rows. -/
theorem want_eq_row (h : TriplesOk a2) (n : Fin 16000) (r : Fin 7) :
    (insOf a0 a1 a2).want (r.castLE (by decide)) (n.castLE (by decide)) = row a0 a1 a2 n r := by
  obtain ⟨hb, hl, hx⟩ := h n
  have hn : (n.castLE (by decide) : Fin 16384).val < 16000 := n.isLt
  unfold Ins.want want row
  rw [insOf_b, insOf_l, insOf_x, padded_inside a2 _ hn, padded_inside a2 _ hn, padded_inside a2 _ hn]
  have same (k : Fin 7) : (r.castLE (by decide) : Fin 8) = k.castLE (by decide) ↔ r = k :=
    Fin.castLE_inj
  refine if_congr (same 0) rfl (if_congr (same 5) (insOf_s a0 a1 a2 _ _ _ _ ?_) (if_congr (same 6) rfl (insOf_t a0 a1 a2 _ _ _)))
  show ((a2 (ix2 n 1)).toNat * 32 + (a2 (ix2 n 0)).toNat) % 2912 = (a2 (ix2 n 1)).toNat % 91 * 32 + (a2 (ix2 n 0)).toNat % 32
  omega

end

end Cert.Proof.Run

end
-- ==== Proof.Reference.lean ====
/-
  The reference's result read entry by entry: under the precondition its index arithmetic and its gathers' clamps do
  nothing, and its rows are the same function of the arguments as the kernel's.
-/
module

public import proofs.«01_k».proof.Proof.Entries
public import proofs.«01_k».proof.Proof.Gen.ReferenceIdeal.Run
public import Idealize.ShloMosaic.Lib.Pointwise.SelectCore

@[expose] public section

noncomputable section

namespace Cert.Proof.Run

open Cert.ReferenceIdeal Cert.ReferenceIdeal.Gen

open Idealize.ShloMosaic hiding ix1 ix2 ix3
open Idealize.ShloMosaic.ValueIdx

variable {F : FTy → Type} [FloatOps F]

/-! ## The operations, at an entry -/

/-- Two indices of a matrix with the same coordinates are one. -/
theorem idx2_ext {a b : ℕ} {i j : (⟨2, ![a, b]⟩ : Shape).Idx} (h0 : (i 0).val = (j 0).val) (h1 : (i 1).val = (j 1).val) : i = j := by
  funext k; apply Fin.ext
  match k with
  | 0 => exact h0
  | 1 => exact h1

/-- A vector laid out as a column. -/
theorem col_apply {α : Type} (v : S16000.Idx → α) (n : Fin 16000) (u : Fin 1) :
    broadcastInDim S16000x1 ![0] bcast_S16000_S16000x1_0 v (ix2 n u) = v (ix1 n) := by
  refine congrArg v ?_
  funext a
  match a with
  | 0 => rfl

/-- A word below half the words is the same number signed. -/
theorem toInt_toNat (v : BitVec 32) (h : v.toNat < 2 ^ 31) : v.toInt.toNat = v.toNat := by
  simp only [BitVec.toInt_eq_toNat_cond, Nat.reducePow]
  omega

/-- An index made non-negative by adding an extent to a negative one: a word below half the words stays. -/
theorem wrap_apply (v : S16000.Idx → BitVec 32) (c : BitVec 32) (n : Fin 16000) (h : (v (ix1 n)).toNat < 2 ^ 31) :
    select (cmpi .slt v (broadcastInDim S16000 ![] bcast_S_S16000 (constantI S_ 32 0#32)))
      (addi v (broadcastInDim S16000 ![] bcast_S_S16000 (constantI S_ 32 c))) v (ix1 n) = v (ix1 n) := by
  refine if_neg ?_
  show ¬ (BitVec.ofBool ((v (ix1 n)).slt 0#32) = 1#1)
  have : (v (ix1 n)).slt 0#32 = false := by
    rw [BitVec.slt_eq_decide, decide_eq_false_iff_not]
    simp only [BitVec.toInt_eq_toNat_cond, BitVec.toNat_ofNat, Nat.reducePow, Nat.reduceMod]
    omega
  rw [this]; decide

/-- The four pieces of the result side by side. -/
theorem row7_apply {α : Type} (p : S16000x1.Idx → α) (q : S16000x4.Idx → α) (s t : S16000x1.Idx → α) (n : Fin 16000) (r : Fin 7) :
    concatenate S16000x7 1 [⟨S16000x1, p⟩, ⟨S16000x4, q⟩, ⟨S16000x1, s⟩, ⟨S16000x1, t⟩]
        concatenates_S16000x1_S16000x4_S16000x1_S16000x1_S16000x7_d1 (ix2 n r)
      = if r = 0 then p (ix2 n 0) else if r = 5 then s (ix2 n 0) else if r = 6 then t (ix2 n 0)
        else q (ix2 n ⟨(r.val - 1) % 4, Nat.mod_lt _ (by decide)⟩) := by
  rw [concatenate_cons_apply]
  simp only [concatenateAt_cons, concatenateAt_singleton]
  fin_cases r
  · exact congrArg p (idx2_ext rfl rfl)
  · exact congrArg q (idx2_ext rfl rfl)
  · exact congrArg q (idx2_ext rfl rfl)
  · exact congrArg q (idx2_ext rfl rfl)
  · exact congrArg q (idx2_ext rfl rfl)
  · exact congrArg s (idx2_ext rfl rfl)
  · exact congrArg t (idx2_ext rfl rfl)

/-- Two columns side by side. -/
theorem row2_apply {α : Type} (p q : S16000x1.Idx → α) (n : Fin 16000) :
    concatenate S16000x2 1 [⟨S16000x1, p⟩, ⟨S16000x1, q⟩] concatenates_S16000x1_S16000x1_S16000x2_d1 (ix2 n 0) = p (ix2 n 0)
    ∧ concatenate S16000x2 1 [⟨S16000x1, p⟩, ⟨S16000x1, q⟩] concatenates_S16000x1_S16000x1_S16000x2_d1 (ix2 n 1) = q (ix2 n 0) := by
  refine ⟨?_, ?_⟩ <;> rw [concatenate_cons_apply] <;> simp only [concatenateAt_cons, concatenateAt_singleton]
  · exact congrArg p (idx2_ext rfl rfl)
  · exact congrArg q (idx2_ext rfl rfl)

/-- Three columns side by side. -/
theorem row3_apply {α : Type} (p q s : S16000x1.Idx → α) (n : Fin 16000) :
    concatenate S16000x3 1 [⟨S16000x1, p⟩, ⟨S16000x1, q⟩, ⟨S16000x1, s⟩] concatenates_S16000x1_S16000x1_S16000x1_S16000x3_d1 (ix2 n 0) = p (ix2 n 0)
    ∧ concatenate S16000x3 1 [⟨S16000x1, p⟩, ⟨S16000x1, q⟩, ⟨S16000x1, s⟩] concatenates_S16000x1_S16000x1_S16000x1_S16000x3_d1 (ix2 n 1) = q (ix2 n 0)
    ∧ concatenate S16000x3 1 [⟨S16000x1, p⟩, ⟨S16000x1, q⟩, ⟨S16000x1, s⟩] concatenates_S16000x1_S16000x1_S16000x1_S16000x3_d1 (ix2 n 2) = s (ix2 n 0) := by
  refine ⟨?_, ?_, ?_⟩ <;> rw [concatenate_cons_apply] <;> simp only [concatenateAt_cons, concatenateAt_singleton]
  · exact congrArg p (idx2_ext rfl rfl)
  · exact congrArg q (idx2_ext rfl rfl)
  · exact congrArg s (idx2_ext rfl rfl)

/-! ## The two gathers -/

/-- A coordinate of a gather: the index's word, signed and clamped, is the word when that is in range. -/
theorem clamp_eq {S : Shape} (idx : S.Idx → BitVec 32) {i j : S.Idx} (e : i = j) {N : ℕ} (h : (idx j).toNat < N) (hN : N < 2 ^ 31) :
    min (idx i).toInt.toNat (N - 1) + 0 + 0 = (idx j).toNat := by
  subst e
  rw [toInt_toNat _ (by omega)]; omega

/-- The gather of boxes: the anchor named by two columns of words in range. -/
theorem boxes_apply {α : Type} (f : S32x20000x4.Idx → α) (p q : S16000x1.Idx → BitVec 32) (n : Fin 16000) (k : Fin 4) {b x : BitVec 32}
    (hp : p (ix2 n 0) = b) (hq : q (ix2 n 0) = x) (hb : b.toNat < 32) (hx : x.toNat < 20000) :
    Host.gather gather_S32x20000x4_S16000x2_S16000x4_1_01_n_n_01_1_114 f
        (concatenate S16000x2 1 [⟨S16000x1, p⟩, ⟨S16000x1, q⟩] concatenates_S16000x1_S16000x1_S16000x2_d1) (ix2 n k)
      = f (ix3 ⟨b.toNat % 32, Nat.mod_lt _ (by decide)⟩ ⟨x.toNat % 20000, Nat.mod_lt _ (by decide)⟩ k) := by
  have e0 := (row2_apply p q n).1.trans hp
  have e1 := (row2_apply p q n).2.trans hq
  generalize concatenate S16000x2 1 [⟨S16000x1, p⟩, ⟨S16000x1, q⟩] concatenates_S16000x1_S16000x1_S16000x2_d1 = idx at e0 e1
  subst e0 e1
  refine congrArg f ?_
  have place (c) (k' : Fin 2) (hc : c.val = k'.val) :
      gather_S32x20000x4_S16000x2_S16000x4_1_01_n_n_01_1_114.siIdx (ix2 n k) c = ix2 n k' := idx2_ext rfl hc
  funext a; apply Fin.ext
  match a with
  | 0 => exact (clamp_eq idx (place _ 0 rfl) hb (by decide)).trans (Nat.mod_eq_of_lt hb).symm
  | 1 => exact (clamp_eq idx (place _ 1 rfl) hx (by decide)).trans (Nat.mod_eq_of_lt hx).symm
  | 2 => exact Nat.zero_add _

/-- The gather of scores: the score named by three columns of words in range. -/
theorem scores_apply {α : Type} (f : S32x20000x91.Idx → α) (p q s : S16000x1.Idx → BitVec 32) (n : Fin 16000) {b x l : BitVec 32}
    (hp : p (ix2 n 0) = b) (hq : q (ix2 n 0) = x) (hs : s (ix2 n 0) = l) (hb : b.toNat < 32) (hx : x.toNat < 20000) (hl : l.toNat < 91) :
    Host.gather gather_S32x20000x91_S16000x3_S16000_n_012_n_n_012_1_111 f
        (concatenate S16000x3 1 [⟨S16000x1, p⟩, ⟨S16000x1, q⟩, ⟨S16000x1, s⟩] concatenates_S16000x1_S16000x1_S16000x1_S16000x3_d1) (ix1 n)
      = f (ix3 ⟨b.toNat % 32, Nat.mod_lt _ (by decide)⟩ ⟨x.toNat % 20000, Nat.mod_lt _ (by decide)⟩ ⟨l.toNat % 91, Nat.mod_lt _ (by decide)⟩) := by
  have e0 := (row3_apply p q s n).1.trans hp
  have e1 := (row3_apply p q s n).2.1.trans hq
  have e2 := (row3_apply p q s n).2.2.trans hs
  generalize concatenate S16000x3 1 [⟨S16000x1, p⟩, ⟨S16000x1, q⟩, ⟨S16000x1, s⟩] concatenates_S16000x1_S16000x1_S16000x1_S16000x3_d1 = idx at e0 e1 e2
  subst e0 e1 e2
  refine congrArg f ?_
  have place (c) (k' : Fin 3) (hc : c.val = k'.val) :
      gather_S32x20000x91_S16000x3_S16000_n_012_n_n_012_1_111.siIdx (ix1 n) c = ix2 n k' := idx2_ext rfl hc
  funext a; apply Fin.ext
  match a with
  | 0 => exact (clamp_eq idx (place _ 0 rfl) hb (by decide)).trans (Nat.mod_eq_of_lt hb).symm
  | 1 => exact (clamp_eq idx (place _ 1 rfl) hx (by decide)).trans (Nat.mod_eq_of_lt hx).symm
  | 2 => exact (clamp_eq idx (place _ 2 rfl) hl (by decide)).trans (Nat.mod_eq_of_lt hl).symm

/-! ## The result -/

section
variable (m : (ℓ : Loc nD τ sig) → Buf (Elt F) ℓ) (c : Dev nD)

/-- A column of the triples, at a row. -/
theorem tri_apply (a2 : S16000x3.Idx → BitVec 32) (n : Fin 16000) :
    shapeCast S16000 (extractStridedSlice S16000x1 ![0, 0] a2 slices_S16000x3_S16000x1_0_0) shapeCasts_S16000x1_S16000 (ix1 n) = a2 (ix2 n 0)
    ∧ shapeCast S16000 (extractStridedSlice S16000x1 ![0, 1] a2 slices_S16000x3_S16000x1_0_1) shapeCasts_S16000x1_S16000 (ix1 n) = a2 (ix2 n 1)
    ∧ shapeCast S16000 (extractStridedSlice S16000x1 ![0, 2] a2 slices_S16000x3_S16000x1_0_2) shapeCasts_S16000x1_S16000 (ix1 n) = a2 (ix2 n 2) :=
  ⟨column_apply a2 0 slices_S16000x3_S16000x1_0_0 shapeCasts_S16000x1_S16000 n,
   column_apply a2 1 slices_S16000x3_S16000x1_0_1 shapeCasts_S16000x1_S16000 n,
   column_apply a2 2 slices_S16000x3_S16000x1_0_2 shapeCasts_S16000x1_S16000 n⟩

/-- A column of the triples, its negative words wrapped, laid out as a column again: in range it is the triples' own. -/
theorem wrapped_apply (a2 : S16000x3.Idx → BitVec 32) (k : Fin 3) (v : S16000.Idx → BitVec 32) (w : BitVec 32) (n : Fin 16000)
    (hv : v (ix1 n) = a2 (ix2 n k)) (h : (a2 (ix2 n k)).toNat < 2 ^ 31) :
    broadcastInDim S16000x1 ![0] bcast_S16000_S16000x1_0
        (select (cmpi .slt v (broadcastInDim S16000 ![] bcast_S_S16000 (constantI S_ 32 0#32)))
          (addi v (broadcastInDim S16000 ![] bcast_S_S16000 (constantI S_ 32 w))) v) (ix2 n 0) = a2 (ix2 n k) :=
  (col_apply _ n 0).trans ((wrap_apply v w n (by rw [hv]; exact h)).trans hv)

/-- The reference's result, row by row. -/
theorem reference_eq_row (h : TriplesOk (m ((c.tc : Thread nD τ).loc main_arg2))) (n : Fin 16000) (r : Fin 7) :
    Cert.ReferenceIdeal.Value.res_out0 m c (ix2 n r)
      = row (m ((c.tc : Thread nD τ).loc main_arg0)) (m ((c.tc : Thread nD τ).loc main_arg1)) (m ((c.tc : Thread nD τ).loc main_arg2)) n r := by
  obtain ⟨hb, hl, hx⟩ := h n
  obtain ⟨tb, tl, tx⟩ := tri_apply (m ((c.tc : Thread nD τ).loc main_arg2)) n
  have wb := wrapped_apply _ 0 _ 32#32 n tb (by omega)
  have wl := wrapped_apply _ 1 _ 91#32 n tl (by omega)
  have wx := wrapped_apply _ 2 _ 20000#32 n tx (by omega)
  refine (row7_apply _ _ _ _ n r).trans ?_
  unfold row
  refine if_congr Iff.rfl ?_ (if_congr Iff.rfl ?_ (if_congr Iff.rfl ?_ ?_))
  · exact congrArg (FloatOps.sitofp .f32) ((col_apply _ n 0).trans tb)
  · exact (col_apply _ n 0).trans (scores_apply _ _ _ _ n wb wx wl hb (by omega) hl)
  · exact congrArg (FloatOps.sitofp .f32) ((col_apply _ n 0).trans tl)
  · exact boxes_apply _ _ _ n _ wb wx hb (by omega)

end

end Cert.Proof.Run

end
-- ==== Proof.lean ====
/-
  The claims. The kernel's run is proved once, over any float values (`Run.run_main`): it gives the kernel's frame on the
  machine's floats and its ideal reading's frame and result. The reference's run is its own generated theorem, and
  `Run.reference_eq_row` with `Run.want_eq_row` says that the two results are the same function of the arguments.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Whole
public import proofs.«01_k».proof.Proof.Reference
public import Idealize.ShloMosaic.Adequacy
public import Idealize.ShloMosaic.Init

@[expose] public section

noncomputable section

namespace Cert.Proof

open Idealize.ShloMosaic Idealize.SL.Sem

/-- The kernel's frame, on the machine's floats. -/
theorem frame_kernel : Cert.quiescent_Kernel := fun m ρ hpre =>
  (θ_run Cert.KernelIdeal.defs _ _).mono (fun _ h => ⟨fun c => (h.1 c).2, h.2⟩)
    (Run.run_main (F := Bits) m ρ fun d => Run.insOf_ok _ _ _ (Run.triplesOk_of_pre _ _ _ (hpre d)))

/-- The frame of the kernel's ideal reading. -/
theorem frame_ideal : Cert.quiescent_KernelIdeal := fun m ρ hpre =>
  (θ_run Cert.KernelIdeal.defs _ _).mono (fun _ h => ⟨fun c => (h.1 c).2, h.2⟩)
    (Run.run_main (F := Ideal) m ρ fun d => Run.insOf_ok _ _ _ (Run.triplesOk_of_pre _ _ _ (hpre d)))

/-- The reference's frame: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame, from memories in range. -/
theorem frame_reference_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's ideal reading and the reference end with equal results. -/
theorem algebraic : Cert.algebraic_KernelIdeal_ReferenceIdeal := by
  intro m ρ m' ρ' hpre hargs
  have hok (d) := Run.triplesOk_of_pre _ _ _ (hpre d)
  refine ⟨fun d => Run.res m d, (θ_run Cert.KernelIdeal.defs _ _).mono (fun _ h c => h.1 c)
    (Run.run_main (F := Ideal) m ρ fun d => Run.insOf_ok _ _ _ (hok d)), ?_⟩
  refine (θ_run Cert.ReferenceIdeal.defs _ _).mono (fun _ h c => ⟨(h c).1.trans ?_, (h c).2⟩)
    (Cert.ReferenceIdeal.Value.run (F := Ideal) m' ρ')
  obtain ⟨e0, e1, e2⟩ := hargs c
  funext i
  refine (congrArg _ (ValueIdx.eq_ix2 i)).trans ?_
  refine (Run.reference_eq_row m' c (e2 ▸ hok c) (i 0) (i 1)).trans ?_
  rw [e0, e1, e2]
  exact (Run.want_eq_row _ _ _ (hok c) (i 0) (i 1)).symm

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, algebraic⟩

end Cert.Proof

end
